-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_UnshiftedIdeal (m : (ℓ : Loc Cert.UnshiftedIdeal.nD Cert.UnshiftedIdeal.τ Cert.UnshiftedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_UnshiftedIdeal [hUnshiftedIdeal : Cert.UnshiftedIdeal.Facts] : Prop :=
  ∀ (m : (ℓ : Loc Cert.UnshiftedIdeal.nD Cert.UnshiftedIdeal.τ Cert.UnshiftedIdeal.sig) → Buf (Elt Ideal) ℓ) (g : Dev Cert.UnshiftedIdeal.nD → PrngReg), Pre_UnshiftedIdeal m →
    θ_run (Cert.UnshiftedIdeal.defs (F := Ideal)) (onTc (τ := Cert.UnshiftedIdeal.τ) (Cert.UnshiftedIdeal.main (F := Ideal))) ⟨m, fun _ => 0, g⟩ (fun r => (∀ c : Dev Cert.UnshiftedIdeal.nD,
      r.2.mem ((c.tc : Thread Cert.UnshiftedIdeal.nD Cert.UnshiftedIdeal.τ).loc Cert.UnshiftedIdeal.main_arg0) = m ((c.tc : Thread Cert.UnshiftedIdeal.nD Cert.UnshiftedIdeal.τ).loc Cert.UnshiftedIdeal.main_arg0)
      ∧ r.2.mem ((c.tc : Thread Cert.UnshiftedIdeal.nD Cert.UnshiftedIdeal.τ).loc Cert.UnshiftedIdeal.main_arg1) = m ((c.tc : Thread Cert.UnshiftedIdeal.nD Cert.UnshiftedIdeal.τ).loc Cert.UnshiftedIdeal.main_arg1)
      ∧ r.2.mem ((c.tc : Thread Cert.UnshiftedIdeal.nD Cert.UnshiftedIdeal.τ).loc Cert.UnshiftedIdeal.main_arg2) = m ((c.tc : Thread Cert.UnshiftedIdeal.nD Cert.UnshiftedIdeal.τ).loc Cert.UnshiftedIdeal.main_arg2)
      ∧ r.2.mem ((c.tc : Thread Cert.UnshiftedIdeal.nD Cert.UnshiftedIdeal.τ).loc Cert.UnshiftedIdeal.main_arg3) = m ((c.tc : Thread Cert.UnshiftedIdeal.nD Cert.UnshiftedIdeal.τ).loc Cert.UnshiftedIdeal.main_arg3)
      ∧ r.2.mem ((c.tc : Thread Cert.UnshiftedIdeal.nD Cert.UnshiftedIdeal.τ).loc Cert.UnshiftedIdeal.main_arg4) = m ((c.tc : Thread Cert.UnshiftedIdeal.nD Cert.UnshiftedIdeal.τ).loc Cert.UnshiftedIdeal.main_arg4)
      ∧ r.2.mem ((c.tc : Thread Cert.UnshiftedIdeal.nD Cert.UnshiftedIdeal.τ).loc Cert.UnshiftedIdeal.main_arg5) = m ((c.tc : Thread Cert.UnshiftedIdeal.nD Cert.UnshiftedIdeal.τ).loc Cert.UnshiftedIdeal.main_arg5))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def algebraic_KernelIdeal_UnshiftedIdeal [hKernelIdeal : Cert.KernelIdeal.Facts] [hUnshiftedIdeal : Cert.UnshiftedIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.UnshiftedIdeal.nD Cert.UnshiftedIdeal.τ Cert.UnshiftedIdeal.sig) → Buf (Elt Ideal) ℓ) (g' : Dev Cert.UnshiftedIdeal.nD → PrngReg), Pre_KernelIdeal m →
    (∀ c : Dev Cert.KernelIdeal.nD,
      m' ((c.tc : Thread Cert.UnshiftedIdeal.nD Cert.UnshiftedIdeal.τ).loc Cert.UnshiftedIdeal.main_arg0) = m ((c.tc : Thread Cert.KernelIdeal.nD Cert.KernelIdeal.τ).loc Cert.KernelIdeal.main_arg0)
      ∧ m' ((c.tc : Thread Cert.UnshiftedIdeal.nD Cert.UnshiftedIdeal.τ).loc Cert.UnshiftedIdeal.main_arg1) = m ((c.tc : Thread Cert.KernelIdeal.nD Cert.KernelIdeal.τ).loc Cert.KernelIdeal.main_arg1)
      ∧ m' ((c.tc : Thread Cert.UnshiftedIdeal.nD Cert.UnshiftedIdeal.τ).loc Cert.UnshiftedIdeal.main_arg2) = m ((c.tc : Thread Cert.KernelIdeal.nD Cert.KernelIdeal.τ).loc Cert.KernelIdeal.main_arg2)
      ∧ m' ((c.tc : Thread Cert.UnshiftedIdeal.nD Cert.UnshiftedIdeal.τ).loc Cert.UnshiftedIdeal.main_arg3) = m ((c.tc : Thread Cert.KernelIdeal.nD Cert.KernelIdeal.τ).loc Cert.KernelIdeal.main_arg3)
      ∧ m' ((c.tc : Thread Cert.UnshiftedIdeal.nD Cert.UnshiftedIdeal.τ).loc Cert.UnshiftedIdeal.main_arg4) = m ((c.tc : Thread Cert.KernelIdeal.nD Cert.KernelIdeal.τ).loc Cert.KernelIdeal.main_arg4)
      ∧ m' ((c.tc : Thread Cert.UnshiftedIdeal.nD Cert.UnshiftedIdeal.τ).loc Cert.UnshiftedIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.UnshiftedIdeal.defs (F := Ideal)) (onTc (τ := Cert.UnshiftedIdeal.τ) (Cert.UnshiftedIdeal.main (F := Ideal))) ⟨m', fun _ => 0, g'⟩ (fun r => ∀ c : Dev Cert.UnshiftedIdeal.nD,
          r.2.mem ((c.tc : Thread Cert.UnshiftedIdeal.nD Cert.UnshiftedIdeal.τ).loc Cert.UnshiftedIdeal.main_v29) = v0 c
          ∧ r.2.mem ((c.tc : Thread Cert.UnshiftedIdeal.nD Cert.UnshiftedIdeal.τ).loc Cert.UnshiftedIdeal.main_arg0) = m' ((c.tc : Thread Cert.UnshiftedIdeal.nD Cert.UnshiftedIdeal.τ).loc Cert.UnshiftedIdeal.main_arg0)
          ∧ r.2.mem ((c.tc : Thread Cert.UnshiftedIdeal.nD Cert.UnshiftedIdeal.τ).loc Cert.UnshiftedIdeal.main_arg1) = m' ((c.tc : Thread Cert.UnshiftedIdeal.nD Cert.UnshiftedIdeal.τ).loc Cert.UnshiftedIdeal.main_arg1)
          ∧ r.2.mem ((c.tc : Thread Cert.UnshiftedIdeal.nD Cert.UnshiftedIdeal.τ).loc Cert.UnshiftedIdeal.main_arg2) = m' ((c.tc : Thread Cert.UnshiftedIdeal.nD Cert.UnshiftedIdeal.τ).loc Cert.UnshiftedIdeal.main_arg2)
          ∧ r.2.mem ((c.tc : Thread Cert.UnshiftedIdeal.nD Cert.UnshiftedIdeal.τ).loc Cert.UnshiftedIdeal.main_arg3) = m' ((c.tc : Thread Cert.UnshiftedIdeal.nD Cert.UnshiftedIdeal.τ).loc Cert.UnshiftedIdeal.main_arg3)
          ∧ r.2.mem ((c.tc : Thread Cert.UnshiftedIdeal.nD Cert.UnshiftedIdeal.τ).loc Cert.UnshiftedIdeal.main_arg4) = m' ((c.tc : Thread Cert.UnshiftedIdeal.nD Cert.UnshiftedIdeal.τ).loc Cert.UnshiftedIdeal.main_arg4)
          ∧ r.2.mem ((c.tc : Thread Cert.UnshiftedIdeal.nD Cert.UnshiftedIdeal.τ).loc Cert.UnshiftedIdeal.main_arg5) = m' ((c.tc : Thread Cert.UnshiftedIdeal.nD Cert.UnshiftedIdeal.τ).loc Cert.UnshiftedIdeal.main_arg5))

def Claim : Prop :=
  ∃ (hKernel : Cert.Kernel.Facts) (hKernelIdeal : Cert.KernelIdeal.Facts) (hReferenceIdeal : Cert.ReferenceIdeal.Facts) (hUnshiftedIdeal : Cert.UnshiftedIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_UnshiftedIdeal (hUnshiftedIdeal := hUnshiftedIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ algebraic_KernelIdeal_UnshiftedIdeal (hKernelIdeal := hKernelIdeal) (hUnshiftedIdeal := hUnshiftedIdeal)
-- ==== Pre_finite_scores.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S50000x256 .f32) (main_arg1 : IVec S50000 32) (main_arg2 : FVec F S256x256 .f32) (main_arg3 : FVec F S256 .f32) (main_arg4 : FVec F S256x1 .f32) (main_arg5 : FVec F S1 .f32) : IVec S_ 1 :=
  let main_v0 : FVec F S256x1 .f32 := Host.absf main_arg4
  let main_cst : FVec F S_ .f32 := constant S_ .f32 0x7F800000#32
  let main_v1 : FVec F S256x1 .f32 := broadcastInDim S256x1 ![] bcast_S_S256x1 main_cst
  let main_v2 : IVec S256x1 1 := cmpf .olt main_v0 main_v1
  let main_c : IVec S_ 1 := constantI S_ 1 1#1
  let main_v3 : IVec S_ 1 := (fun x v => Host.reduce IntOp.andi x v reducesTo_S256x1_S_d0_1 h_S_) main_v2 main_c
  let main_v4 : FVec F S1 .f32 := Host.absf main_arg5
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  main_v8
-- ==== Kernel.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩
abbrev S50176 : Shape := ⟨1, ![50176]⟩
abbrev S4x1x12544 : Shape := ⟨3, ![4, 1, 12544]⟩
abbrev S1x256 : Shape := ⟨2, ![1, 256]⟩
abbrev S1x1 : Shape := ⟨2, ![1, 1]⟩
abbrev S64x256 : Shape := ⟨2, ![64, 256]⟩
abbrev S64x128 : Shape := ⟨2, ![64, 128]⟩
abbrev S12544x256 : Shape := ⟨2, ![12544, 256]⟩
abbrev S1x1x12544 : Shape := ⟨3, ![1, 1, 12544]⟩
abbrev S12544 : Shape := ⟨1, ![12544]⟩
abbrev S64x12544 : Shape := ⟨2, ![64, 12544]⟩
abbrev S1x12544 : Shape := ⟨2, ![1, 12544]⟩
abbrev S64 : Shape := ⟨1, ![64]⟩
abbrev S64x1 : Shape := ⟨2, ![64, 1]⟩
abbrev S12544x1 : Shape := ⟨2, ![12544, 1]⟩
abbrev S2x256 : Shape := ⟨2, ![2, 256]⟩
abbrev S80 : Shape := ⟨1, ![80]⟩
abbrev S16 : Shape := ⟨1, ![16]⟩
abbrev S1x16 : Shape := ⟨2, ![1, 16]⟩

abbrev nBuf : Table → Nat
  | .hbm => 18
  | .local .tc .vmem => 10
  | .local .scVector .vmem => 2
  | _ => 0

abbrev bufTy : (tb : Table) → Fin (nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S_, .i32⟩
  | .hbm, ⟨7, _⟩ => ⟨S_, .i32⟩
  | .hbm, ⟨8, _⟩ => ⟨S50176, .i32⟩
  | .hbm, ⟨9, _⟩ => ⟨S4x1x12544, .i32⟩
  | .hbm, ⟨10, _⟩ => ⟨S1x256, .f32⟩
  | .hbm, ⟨11, _⟩ => ⟨S1x256, .f32⟩
  | .hbm, ⟨12, _⟩ => ⟨S1x1, .f32⟩
  | .hbm, ⟨13, _⟩ => ⟨S64x256, .f32⟩
  | .hbm, ⟨14, _⟩ => ⟨S64x128, .f32⟩
  | .hbm, ⟨15, _⟩ => ⟨S64x1, .f32⟩
  | .hbm, ⟨16, _⟩ => ⟨S64, .f32⟩
  | .hbm, ⟨17, _⟩ => ⟨S64x256, .f32⟩
  | .local .tc .vmem, ⟨0, _⟩ => ⟨S12544x256, .f32⟩
  | .local .tc .vmem, ⟨1, _⟩ => ⟨S12544x256, .f32⟩
  | .local .tc .vmem, ⟨2, _⟩ => ⟨S1x1x12544, .i32⟩
  | .local .tc .vmem, ⟨3, _⟩ => ⟨S1x1x12544, .i32⟩
  | .local .tc .vmem, ⟨4, _⟩ => ⟨S256x256, .f32⟩
  | .local .tc .vmem, ⟨5, _⟩ => ⟨S1x256, .f32⟩
  | .local .tc .vmem, ⟨6, _⟩ => ⟨S1x256, .f32⟩
  | .local .tc .vmem, ⟨7, _⟩ => ⟨S1x1, .f32⟩
  | .local .tc .vmem, ⟨8, _⟩ => ⟨S64x256, .f32⟩
  | .local .tc .vmem, ⟨9, _⟩ => ⟨S64x128, .f32⟩
  | .local .scVector .vmem, ⟨0, _⟩ => ⟨S2x256, .f32⟩
  | .local .scVector .vmem, ⟨1, _⟩ => ⟨S80, .f32⟩
  | _, _ => ⟨S50000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => false
  | ⟨11, _⟩ => false
  | ⟨12, _⟩ => false
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v5_0_scv : Ref sig .scVector := ⟨.hbm, 13, rfl⟩
abbrev main_v7_scv : Ref sig .scVector := ⟨.hbm, 16, rfl⟩
abbrev main_v8_scv : Ref sig .scVector := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_13 : BitVec 32 := 0#32
  let v23 : BitVec 1 := Scalar.cmpi .ne v22 c0_i32_13
  v23

def k0_cond2 (i : grid0.Coords) : BitVec 1 :=
  let arg0 : BitVec 32 := BitVec.ofNat 32 (i 0).val
  let c3_i32 : BitVec 32 := 3#32
  let v24 : BitVec 1 := Scalar.cmpi .slt arg0 c3_i32
  let v25 : BitVec 32 := Scalar.extui v24
  let c0_i32_14 : BitVec 32 := 0#32
  let v26 : BitVec 1 := Scalar.cmpi .ne v25 c0_i32_14
  v26

def k0_cond3 (i : grid0.Coords) : BitVec 1 :=
  let arg0 : BitVec 32 := BitVec.ofNat 32 (i 0).val
  let c3_i32_15 : BitVec 32 := 3#32
  let v27 : BitVec 1 := Scalar.cmpi .eq arg0 c3_i32_15
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12544x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x12544 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨2, ![2, 16], ![false, false]⟩

def k1_off1 (i : grid1.Coords) : Fin 2 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let c0_i32_111_r0 : BitVec 32 := 0#32
  ![v2.toNat, 0]
def k1_off2 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c2_i32 : BitVec 32 := 2#32
  let v2 : BitVec 32 := Scalar.muli v1 c2_i32
  let v3 : Index := Scalar.indexCast v2
  ![v3.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S50000x1 : Shape := ⟨2, ![50000, 1]⟩
abbrev S1x1 : Shape := ⟨2, ![1, 1]⟩
abbrev S64 : Shape := ⟨1, ![64]⟩
abbrev S1x64 : Shape := ⟨2, ![1, 64]⟩
abbrev S50000x64 : Shape := ⟨2, ![50000, 64]⟩
abbrev S_ : Shape := ⟨0, ![]⟩
abbrev S64x256 : Shape := ⟨2, ![64, 256]⟩

abbrev nBuf : Space → Nat
  | .hbm => 77
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S50000x1, .i32⟩
  | .hbm, ⟨17, _⟩ => ⟨S64, .i32⟩
  | .hbm, ⟨18, _⟩ => ⟨S1x64, .i32⟩
  | .hbm, ⟨19, _⟩ => ⟨S50000x64, .i32⟩
  | .hbm, ⟨20, _⟩ => ⟨S50000x64, .i32⟩
  | .hbm, ⟨21, _⟩ => ⟨S50000x64, .i1⟩
  | .hbm, ⟨22, _⟩ => ⟨S50000x1, .f32⟩
  | .hbm, ⟨23, _⟩ => ⟨S_, .f32⟩
  | .hbm, ⟨24, _⟩ => ⟨S_, .f32⟩
  | .hbm, ⟨25, _⟩ => ⟨S50000x64, .f32⟩
  | .hbm, ⟨26, _⟩ => ⟨S50000x64, .f32⟩
  | .hbm, ⟨27, _⟩ => ⟨S50000x64, .f32⟩
  | .hbm, ⟨28, _⟩ => ⟨S_, .f32⟩
  | .hbm, ⟨29, _⟩ => ⟨S64, .f32⟩
  | .hbm, ⟨30, _⟩ => ⟨S_, .i32⟩
  | .hbm, ⟨31, _⟩ => ⟨S50000, .i32⟩
  | .hbm, ⟨32, _⟩ => ⟨S50000, .i1⟩
  | .hbm, ⟨33, _⟩ => ⟨S_, .i32⟩
  | .hbm, ⟨34, _⟩ => ⟨S50000, .i32⟩
  | .hbm, ⟨35, _⟩ => ⟨S50000, .i32⟩
  | .hbm, ⟨36, _⟩ => ⟨S50000, .i32⟩
  | .hbm, ⟨37, _⟩ => ⟨S50000x1, .i32⟩
  | .hbm, ⟨38, _⟩ => ⟨S50000, .f32⟩
  | .hbm, ⟨39, _⟩ => ⟨S50000, .f32⟩
  | .hbm, ⟨40, _⟩ => ⟨S50000, .f32⟩
  | .hbm, ⟨41, _⟩ => ⟨S_, .f32⟩
  | .hbm, ⟨42, _⟩ => ⟨S64, .f32⟩
  | .hbm, ⟨43, _⟩ => ⟨S50000x1, .i32⟩
  | .hbm, ⟨44, _⟩ => ⟨S64, .f32⟩
  | .hbm, ⟨45, _⟩ => ⟨S_, .i32⟩
  | .hbm, ⟨46, _⟩ => ⟨S50000, .i32⟩
  | .hbm, ⟨47, _⟩ => ⟨S50000, .i1⟩
  | .hbm, ⟨48, _⟩ => ⟨S_, .i32⟩
  | .hbm, ⟨49, _⟩ => ⟨S50000, .i32⟩
  | .hbm, ⟨50, _⟩ => ⟨S50000, .i32⟩
  | .hbm, ⟨51, _⟩ => ⟨S50000, .i32⟩
  | .hbm, ⟨52, _⟩ => ⟨S50000x1, .i32⟩
  | .hbm, ⟨53, _⟩ => ⟨S50000, .f32⟩
  | .hbm, ⟨54, _⟩ => ⟨S_, .i32⟩
  | .hbm, ⟨55, _⟩ => ⟨S50000, .i32⟩
  | .hbm, ⟨56, _⟩ => ⟨S50000, .i1⟩
  | .hbm, ⟨57, _⟩ => ⟨S_, .i32⟩
  | .hbm, ⟨58, _⟩ => ⟨S50000, .i32⟩
  | .hbm, ⟨59, _⟩ => ⟨S50000, .i32⟩
  | .hbm, ⟨60, _⟩ => ⟨S50000, .i32⟩
  | .hbm, ⟨61, _⟩ => ⟨S50000x1, .i32⟩
  | .hbm, ⟨62, _⟩ => ⟨S50000, .f32⟩
  | .hbm, ⟨63, _⟩ => ⟨S50000, .f32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S64x256, .f32⟩
  | .hbm, ⟨75, _⟩ => ⟨S50000x1, .i32⟩
  | .hbm, ⟨76, _⟩ => ⟨S64x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_c : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_3 : Ref sig .tc := ⟨.hbm, 45, rfl⟩
abbrev main_v31 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_c_5 : Ref sig .tc := ⟨.hbm, 54, rfl⟩
abbrev main_v38 : Ref sig .tc := ⟨.hbm, 55, rfl⟩
abbrev main_v39 : Ref sig .tc := ⟨.hbm, 56, rfl⟩
abbrev main_c_6 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩

abbrev nD : Nat := 1
abbrev τ : Topo := Topo.v7x

variable {F : FTy → Type} [FloatOps F]
-- ==== UnshiftedIdeal.lean ====
abbrev S50000x256 : Shape := ⟨2, ![50000, 256]⟩
abbrev S50000 : Shape := ⟨1, ![50000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S1x256 : Shape := ⟨2, ![1, 256]⟩
abbrev S50000x1 : Shape := ⟨2, ![50000, 1]⟩
abbrev S1x1 : Shape := ⟨2, ![1, 1]⟩
abbrev S_ : Shape := ⟨0, ![]⟩
abbrev S64 : Shape := ⟨1, ![64]⟩
abbrev S64x256 : Shape := ⟨2, ![64, 256]⟩

abbrev nBuf : Space → Nat
  | .hbm => 41
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000, .i32⟩
  | .hbm, ⟨2, _⟩ => ⟨S256x256, .f32⟩
  | .hbm, ⟨3, _⟩ => ⟨S256, .f32⟩
  | .hbm, ⟨4, _⟩ => ⟨S256x1, .f32⟩
  | .hbm, ⟨5, _⟩ => ⟨S1, .f32⟩
  | .hbm, ⟨6, _⟩ => ⟨S50000x256, .f32⟩
  | .hbm, ⟨7, _⟩ => ⟨S1x256, .f32⟩
  | .hbm, ⟨8, _⟩ => ⟨S50000x256, .f32⟩
  | .hbm, ⟨9, _⟩ => ⟨S50000x256, .f32⟩
  | .hbm, ⟨10, _⟩ => ⟨S50000x256, .f32⟩
  | .hbm, ⟨11, _⟩ => ⟨S50000x1, .f32⟩
  | .hbm, ⟨12, _⟩ => ⟨S1x1, .f32⟩
  | .hbm, ⟨13, _⟩ => ⟨S50000x1, .f32⟩
  | .hbm, ⟨14, _⟩ => ⟨S50000x1, .f32⟩
  | .hbm, ⟨15, _⟩ => ⟨S50000, .f32⟩
  | .hbm, ⟨16, _⟩ => ⟨S50000, .f32⟩
  | .hbm, ⟨17, _⟩ => ⟨S_, .f32⟩
  | .hbm, ⟨18, _⟩ => ⟨S64, .f32⟩
  | .hbm, ⟨19, _⟩ => ⟨S50000x1, .i32⟩
  | .hbm, ⟨20, _⟩ => ⟨S64, .f32⟩
  | .hbm, ⟨21, _⟩ => ⟨S_, .i32⟩
  | .hbm, ⟨22, _⟩ => ⟨S50000, .i32⟩
  | .hbm, ⟨23, _⟩ => ⟨S50000, .i1⟩
  | .hbm, ⟨24, _⟩ => ⟨S_, .i32⟩
  | .hbm, ⟨25, _⟩ => ⟨S50000, .i32⟩
  | .hbm, ⟨26, _⟩ => ⟨S50000, .i32⟩
  | .hbm, ⟨27, _⟩ => ⟨S50000, .i32⟩
  | .hbm, ⟨28, _⟩ => ⟨S50000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x256, .f32⟩
  | .hbm, ⟨36, _⟩ => ⟨S50000x256, .f32⟩
  | .hbm, ⟨37, _⟩ => ⟨S_, .f32⟩
  | .hbm, ⟨38, _⟩ => ⟨S64x256, .f32⟩
  | .hbm, ⟨39, _⟩ => ⟨S50000x1, .i32⟩
  | .hbm, ⟨40, _⟩ => ⟨S64x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.SetupI.lean ====
/-
  What every module of the kernel's run shares: the program as the launch theorem takes it, the ghost state, the
  buffers, the rows the tiles own, and what the call to the tiles carries.
-/
module

public import proofs.«01_k».proof.Defs
public import Idealize.ShloMosaic.Lib.SparseCore.Quiescent
public import Idealize.ShloMosaic.Lib.SparseCore.Ops
public import Idealize.ShloMosaic.Lib.ShareLeaves
public import Idealize.ShloMosaic.Lib.StableHlo.Run
public import Idealize.ShloMosaic.Lib.Pipeline.Kit
public import Idealize.ShloMosaic.Lib.Writes
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem takes it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The configuration's side conditions: its semaphores are distinct and scoped as the launch needs, and no task-shared
    buffer is owned by a SparseCore. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipeline's rounds, the transfers' counters -/

abbrev UH : Type := URounds (GSem nD τ sig) ℕ
abbrev UU : Type := UH × (URounds (GSem nD τ sig) Unit × Counters)

local notation "𝕄" => MT nD τ sig (HIx 1) (Elt F) ℕ UU ℕ

abbrev EH : Emb UH (MT nD τ sig (HIx 1) (Elt F) ℕ UU ℕ) := embL
abbrev EP : Emb (URounds (GSem nD τ sig) Unit) (MT nD τ sig (HIx 1) (Elt F) ℕ UU ℕ) := Emb.inl.trans embR

/-! ## The buffers the tiles see -/

abbrev uLoc (d : Dev nD) : Loc nD τ sig := (SparseCore.T d).loc main_v5_0
abbrev eLoc (d : Dev nD) : Loc nD τ sig := (SparseCore.T d).loc main_v7
abbrev oLoc (d : Dev nD) : Loc nD τ sig := (SparseCore.T d).loc main_v8

local notation "uV" => (Memref.whole Cert.KernelIdeal.main_v5_0_scv : Memref Cert.KernelIdeal.sig Kind.scVector Space.hbm Cert.KernelIdeal.S64x256 EltTy.f32)
local notation "oV" => (Memref.whole Cert.KernelIdeal.main_v8_scv : Memref Cert.KernelIdeal.sig Kind.scVector Space.hbm Cert.KernelIdeal.S64x256 EltTy.f32)

theorem rdiv : 32 ∣ S64x256.size 0 := ⟨2, rfl⟩
/-- Rows `2w` and `2w + 1` of a 64-row array. -/
abbrev row (w : Fin 32) : Rect S64x256 := Rect.part (s := S64x256) (a₀ := 0) rdiv w
abbrev rowSet (w : Fin 32) : Finset S64x256.Idx := (row w).set

/-- The number of tile `(c, i)`: 16 tiles to a SparseCore. -/
def wid : Fin 2 × Fin 16 ≃ Fin 32 := finProdFinEquiv

theorem wid_val (c : Fin 2) (i : Fin 16) : (wid (c, i)).val = 16 * c.val + i.val := by
  simp [wid, finProdFinEquiv]; omega

/-- Tile `w`'s share of the table of denominators: one of 32. -/
abbrev eq (w : Fin 32) : PosShare TreeShare := ShareLeaves.leaf 5 fullShare w

variable (m : (ℓ : Loc nD τ sig) → Buf (Elt F) ℓ)

/-- Contents of the two arrays a tile reads: the sums of the rows, and the denominators. -/
abbrev UpC (F : FTy → Type) : Type := S64x256.Idx → Elt F .f32
abbrev DenC (F : FTy → Type) : Type := S64.Idx → Elt F .f32

/-- The row of an index into a 64-row array. -/
def rowIx (j : S64x256.Idx) : S64.Idx := fun a => ⟨(j 0).val, by match a with | 0 => exact (j 0).isLt⟩

variable [FloatOps F]

/-- What a tile multiplies a row by: one over the denominator with its guard. -/
def recip (x : Elt F .f32) : Elt F .f32 :=
  FloatOps.divf (FloatOps.ofBits (F := F) .f32 0x3F800000) (FloatOps.addf x (FloatOps.ofBits (F := F) .f32 0x24E69595))

/-- What the tiles leave: each sum times the reciprocal of its row's guarded denominator. -/
def scOut (up : UpC F) (d7 : DenC F) : UpC F := fun j => FloatOps.mulf (up j) (recip (d7 (rowIx j)))

variable (Good : UpC F → DenC F → Prop)

/-- What tile `w` is handed: its rows of the sums, its share of the denominators, its rows of the result. -/
def goRes (d : Dev nD) (w : Fin 32) : sProp 𝕄 :=
  iprop(∃ up d7, ⌜Good up d7⌝ ∗ (uLoc d ↦[rowSet w]{fullShare} up) ∗ (eLoc d ↦{eq w} d7) ∗ (oLoc d ↦[rowSet w]{fullShare} m (oLoc d)))
/-- What tile `w` brings back: its rows of the result, normalised. -/
def tdRes (d : Dev nD) (w : Fin 32) : sProp 𝕄 :=
  iprop(∃ up d7, ⌜Good up d7⌝ ∗ (oLoc d ↦[rowSet w]{fullShare} scOut (F := F) up d7))

instance goRes_storable (d : Dev nD) (w : Fin 32) : BI.Storable (upEmb : UEmb _ 𝕄) (goRes m Good d w) := by
  unfold goRes; infer_instance
instance tdRes_storable (d : Dev nD) (w : Fin 32) : BI.Storable (upEmb : UEmb _ 𝕄) (tdRes Good d w) := by
  unfold tdRes; infer_instance

/-- Tile `(c, i)`'s number. -/
abbrev wOf (c : Fin ((K (F := F)).nCore 0)) (i : Fin ((K (F := F)).nSub 0)) : Fin 32 := wid (Fin.cast nCore_zero c, Fin.cast nSub_zero i)

/-- What the one call carries: each SparseCore what its sixteen tiles are handed, and back what they bring. -/
def P : (K (F := F)).Pay (nD := nD) (Val := Elt F) (Name := ℕ) (U := UU) where
  st := fun q d c => match q with | 0 => bigSep Finset.univ fun i => goRes m Good d (wOf (F := F) c i)
  dn := fun q d c => match q with | 0 => bigSep Finset.univ fun i => tdRes Good d (wOf (F := F) c i)
  go := fun q d c i => match q with | 0 => goRes m Good d (wOf (F := F) c i)
  td := fun q d c i => match q with | 0 => tdRes Good d (wOf (F := F) c i)
  x := fun _ _ => iprop(emp)

instance P_storable : (P (F := F) m Good).IsStorable where
  st q d c := match q with
    | 0 => (inferInstance : BI.Storable (upEmb : UEmb _ 𝕄) (bigSep Finset.univ fun i => goRes m Good d (wOf (F := F) c i)))
  dn q d c := match q with
    | 0 => (inferInstance : BI.Storable (upEmb : UEmb _ 𝕄) (bigSep Finset.univ fun i => tdRes Good d (wOf (F := F) c i)))
  go q d c i := match q with | 0 => (inferInstance : BI.Storable (upEmb : UEmb _ 𝕄) (goRes m Good d (wOf (F := F) c i)))
  td q d c i := match q with | 0 => (inferInstance : BI.Storable (upEmb : UEmb _ 𝕄) (tdRes Good d (wOf (F := F) c i)))

/-- A SparseCore's share of the call is its tiles' shares, both ways. -/
theorem vecSplit : (K (F := F)).VecSplit' (P m Good) 0 := by
  intro d c
  show iprop(bigSep Finset.univ fun i => goRes m Good d (wOf (F := F) c i)) ⊢ |={Set.univ}=> iprop(
      (bigSep Finset.univ fun i => goRes m Good d (wOf (F := F) c i))
      ∗ ((bigSep Finset.univ fun i => tdRes Good d (wOf (F := F) c i)) -∗ bigSep Finset.univ fun i => tdRes Good d (wOf (F := F) c i)))
  iintro H; imodintro
  isplitl [H]; · iexact H
  iintro H; iexact H

end Cert.Proof.KI

end
-- ==== Proof.TileI.lean ====
/-
  One tile's task: it copies its two rows of the sums and the denominators in, multiplies sixteen lanes at a time by
  the reciprocal of the row's guarded denominator, and copies the rows out.
-/
module

public import proofs.«01_k».proof.Proof.SetupI

@[expose] public section

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
local notation "uV" => (Memref.whole Cert.KernelIdeal.main_v5_0_scv : Memref Cert.KernelIdeal.sig Kind.scVector Space.hbm Cert.KernelIdeal.S64x256 EltTy.f32)
local notation "eV" => (Memref.whole Cert.KernelIdeal.main_v7_scv : Memref Cert.KernelIdeal.sig Kind.scVector Space.hbm Cert.KernelIdeal.S64 EltTy.f32)
local notation "oV" => (Memref.whole Cert.KernelIdeal.main_v8_scv : Memref Cert.KernelIdeal.sig Kind.scVector Space.hbm Cert.KernelIdeal.S64x256 EltTy.f32)
local notation "aV" => (Memref.whole Cert.KernelIdeal.cc1_scratch0 : Memref Cert.KernelIdeal.sig Kind.scVector Space.vmem Cert.KernelIdeal.S2x256 EltTy.f32)
local notation "bV" => (Memref.whole Cert.KernelIdeal.cc1_scratch1 : Memref Cert.KernelIdeal.sig Kind.scVector Space.vmem Cert.KernelIdeal.S80 EltTy.f32)

variable (m : (ℓ : Loc nD τ sig) → Buf (Elt F) ℓ)
variable (d : Dev nD) (L : grid1.Coords)

/-! ## The tile, its rows and its cells -/

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The tile's number. -/
abbrev wL (L : grid1.Coords) : Fin 32 := wid (Fin.cast bound_zero (L 0), Fin.cast bound_one (L 1))

theorem wL_val : (wL L).val = 16 * (L 0).val + (L 1).val := wid_val _ _

/-- The tile's two rows, as its copies address them. -/
abbrev rowK (L : grid1.Coords) : Rect S64x256 := Rect.unit (s := S64x256) (k1_off1 L) S2x256.size (k1_off1_inb L)
abbrev uRowK (L : grid1.Coords) : Memref sig .scVector .hbm S2x256 .f32 := (uV).slice (rowK L) (fun _ => rfl)
abbrev oRowK (L : grid1.Coords) : Memref sig .scVector .hbm S2x256 .f32 := (oV).slice (rowK L) (fun _ => rfl)

/-- They are its part of the 32 into which the rows divide. -/
theorem rowK_eq : rowK L = row (wL L) := by
  unfold rowK row Rect.part Rect.block
  congr 1 <;> funext a
  · rw [k1_off1_eq]
    match a with
    | 0 => simp [Shape.partIx, Shape.partSize, wL_val]; omega
    | 1 => simp [Shape.partIx, Shape.partSize]
  · match a with
    | 0 => simp [Shape.partSize]
    | 1 => simp [Shape.partSize]

theorem set_uRowK : (uRowK L).view.set = rowSet (wL L) := by
  show ((View.whole (main_v5_0_scv : Ref sig .scVector)).slice (rowK L)).set = _
  rw [View.set_slice, rowK_eq]; exact Finset.map_refl
theorem set_oRowK : (oRowK L).view.set = rowSet (wL L) := by
  show ((View.whole (main_v8_scv : Ref sig .scVector)).slice (rowK L)).set = _
  rw [View.set_slice, rowK_eq]; exact Finset.map_refl

theorem pts_uRowK (f : Buf (Elt F) (uLoc d)) :
    ((uRowK L).view.loc (V d (cV L) (jV L)) ↦[(uRowK L).view.set]{fullShare} f : sProp 𝕄) = uLoc d ↦[rowSet (wL L)]{fullShare} f := by
  rw [set_uRowK]
theorem pts_oRowK (f : Buf (Elt F) (oLoc d)) :
    ((oRowK L).view.loc (V d (cV L) (jV L)) ↦[(oRowK L).view.set]{fullShare} f : sProp 𝕄) = oLoc d ↦[rowSet (wL L)]{fullShare} f := by
  rw [set_oRowK]
theorem pts_eV (q : PosShare TreeShare) (f : Buf (Elt F) (eLoc d)) :
    ((eV).view.loc (V d (cV L) (jV L)) ↦{q} f : sProp 𝕄) = eLoc d ↦{q} f := rfl
theorem pts_aV (f : Buf (Elt F) ((V d (cV L) (jV L)).loc cc1_scratch0)) :
    ((aV).view.loc (V d (cV L) (jV L)) ↦{fullShare} f : sProp 𝕄) = (V d (cV L) (jV L)).loc cc1_scratch0 ↦{fullShare} f := rfl
theorem pts_bV (f : Buf (Elt F) ((V d (cV L) (jV L)).loc cc1_scratch1)) :
    ((bV).view.loc (V d (cV L) (jV L)) ↦{fullShare} f : sProp 𝕄) = (V d (cV L) (jV L)).loc cc1_scratch1 ↦{fullShare} f := rfl

abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)

/-- The three copies' semaphores are among the tile's own: they are them, and the rest. -/
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L))) fun g => semVal g 0) := by
  unfold SparseCore.Cfg.ownSems0
  rw [SparseCore.bigSep_erase' ((mem_ownCells (g := cell0 d (cV L) (jV L))).mpr ⟨rfl, by
      show (SemLoc.dma cc1_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc1_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc1_scoped2.sem : SemLoc sig).isScoped .scVector = true; decide⟩⟩⟩)]

/-- The two scratch buffers are among the tile's own: they are them, at some contents, and the rest. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

variable [FloatOps F]

/-! ## What the tile's stores leave -/

/-- Row `2w + r` as an index into the denominators. -/
def denIx (L : grid1.Coords) (r : Fin 2) : S64.Idx :=
  fun a => ⟨2 * (wL L).val + r.val, by match a with | 0 => have := (wL L).isLt; have := r.isLt; show _ < 64; omega⟩

/-- What the tile's two rows become: the result at the place each of their elements has in the whole array. -/
def tileOut (up : UpC F) (d7 : DenC F) : S2x256.Idx → Elt F .f32 := fun y => scOut up d7 ((rowK L).emb y)

/-- Sixteen lanes times one scalar, through the two shape casts about the product. -/
def scale (t : Elt F .f32) (v : S1x16.Idx → Elt F .f32) : S1x16.Idx → Elt F .f32 :=
  shapeCast S1x16 (mulf (shapeCast S16 v shapeCasts_S1x16_S16) (broadcast S16 t) : FVec F S16 .f32) shapeCasts_S16_S1x16

omit [FloatOps F] in
theorem scale_apply [FloatOps F] (t : Elt F .f32) (v : S1x16.Idx → Elt F .f32) (x : S1x16.Idx) : scale t v x = FloatOps.mulf (v x) t := by
  unfold scale shapeCast mulf broadcast
  show FloatOps.mulf (v (Shape.reshapeEquiv _ (Shape.reshapeEquiv _ x))) t = _
  rw [Shape.reshapeEquiv_reshapeEquiv, Shape.reshapeEquiv_self]

/-- What the first copy lands: the tile's two rows of the sums. -/
def upIn (up : UpC F) : S2x256.Idx → Elt F .f32 := ReadAs.same.apply (View.read (Elt F) (uRowK L).view up)

omit [FloatOps F] in
theorem upIn_apply (up : UpC F) (y : S2x256.Idx) : upIn L up y = up ((rowK L).emb y) := by
  show View.read (Elt F) (uRowK L).view up y = _
  exact (View.read_apply _ _).trans (cast_eq _ _)

/-- A store's payload, sixteen lanes of row `r` as landed times the reciprocal for that row, is the result there. -/
theorem piece_ok (up : UpC F) (d7 : DenC F) (fa : S2x256.Idx → Elt F .f32) (o : Fin 2 → ℕ) (inb : ∀ a, o a + S1x16.size a ≤ S2x256.size a)
    (r : Fin 2) (ho : o 0 = r.val) (t : Elt F .f32) (ht : t = recip (d7 (denIx L r))) (x : S1x16.Idx) :
    scale t (View.readAt (Elt F) (aV).view (Rect.unit (s := S2x256) o S1x16.size inb).toLoadRect
        (View.write (Elt F) (aV).view fa (upIn L up) Finset.univ)) x
      = tileOut L up d7 ((Rect.unit (s := S2x256) o S1x16.size inb).emb x) := by
  rw [scale_apply, View.readAt_rect]
  have e : View.write (Elt F) (aV).view fa (upIn L up) Finset.univ = upIn L up := View.write_whole_univ _ _ _
  rw [e]
  have e2 : View.read (Elt F) ((aV).view.slice (Rect.unit (s := S2x256) o S1x16.size inb)) (upIn L up) x
      = upIn L up ((Rect.unit (s := S2x256) o S1x16.size inb).emb x) := (View.read_apply _ _).trans (cast_eq _ _)
  rw [e2, upIn_apply]
  unfold tileOut scOut
  have e3 : rowIx ((rowK L).emb ((Rect.unit (s := S2x256) o S1x16.size inb).emb x)) = denIx L r := by
    funext a
    apply Fin.ext
    show k1_off1 L 0 + 1 * (o 0 + 1 * (x 0).val) = 2 * (wL L).val + r.val
    have hx : (x 0).val = 0 := by have := (x 0).isLt; change _ < 1 at this; omega
    rw [k1_off1_eq, ho, hx, wL_val]; show 32 * (L 0).val + 2 * (L 1).val + _ = _
    omega
  rw [e3, ht]

omit [FloatOps F] in
/-- Lane `r` of the sixteen denominators the tile loads is its row's. -/
theorem lane (d7 : DenC F) (fb : S80.Idx → Elt F .f32) (r : Fin 2) (y : S16.Idx) (hy : (y 0).val = r.val) :
    View.readAt (Elt F) (bV).view (Rect.unit (s := S80) (k1_off2 L) S16.size (k1_off2_inb L)).toLoadRect
        ((bV).view.writes (Elt F) fb [⟨Rect.unit ![0] S64.size inb_S80_S64_0, ReadAs.same.apply (View.read (Elt F) (eV).view d7)⟩]) y
      = d7 (denIx L r) := by
  rw [View.readAt_apply]
  refine (View.read_writes_cons_hit_of_coords _ _ _ _ [] (denIx L r) _ ?_).trans ?_
  · intro a
    match a with
    | 0 =>
      show k1_off2 L 0 + 1 * (y 0).val = 0 + 1 * (2 * (wL L).val + r.val)
      rw [k1_off2_eq, hy, wL_val]; show 32 * (L 0).val + 2 * (L 1).val + _ = _
      omega
  · show View.read (Elt F) (eV).view d7 _ = _
    exact (View.read_apply _ _).trans (cast_eq _ _)

/-- The scalar for row 0, as the tile computes it. -/
theorem recip0 (d7 : DenC F) (fb : S80.Idx → Elt F .f32) :
    k1_pay3 (View.readAt (Elt F) (bV).view (Rect.unit (s := S80) (k1_off2 L) S16.size (k1_off2_inb L)).toLoadRect
        ((bV).view.writes (Elt F) fb [⟨Rect.unit ![0] S64.size inb_S80_S64_0, ReadAs.same.apply (View.read (Elt F) (eV).view d7)⟩]))
      = recip (d7 (denIx L 0)) := by
  unfold k1_pay3 k1_pay2 recip extractAt extractStridedSlice divf addf broadcast shapeCast
  simp only [Shape.reshapeEquiv_self]
  exact congrArg (fun z => FloatOps.divf (FloatOps.ofBits (F := F) .f32 0x3F800000) (FloatOps.addf z (FloatOps.ofBits (F := F) .f32 0x24E69595)))
    (lane L d7 fb 0 _ rfl)

/-- The scalar for row 1, as the tile computes it. -/
theorem recip1 (d7 : DenC F) (fb : S80.Idx → Elt F .f32) :
    k1_pay24 (k1_pay2 (View.readAt (Elt F) (bV).view (Rect.unit (s := S80) (k1_off2 L) S16.size (k1_off2_inb L)).toLoadRect
        ((bV).view.writes (Elt F) fb [⟨Rect.unit ![0] S64.size inb_S80_S64_0, ReadAs.same.apply (View.read (Elt F) (eV).view d7)⟩])))
      = recip (d7 (denIx L 1)) := by
  unfold k1_pay24 k1_pay2 recip extractAt extractStridedSlice divf addf broadcast shapeCast
  simp only [Shape.reshapeEquiv_self]
  exact congrArg (fun z => FloatOps.divf (FloatOps.ofBits (F := F) .f32 0x3F800000) (FloatOps.addf z (FloatOps.ofBits (F := F) .f32 0x24E69595)))
    (lane L d7 fb 1 _ rfl)

variable (Good : UpC F → DenC F → Prop)

set_option maxHeartbeats 4000000 in
/-- One tile's task: from its rows of the sums and its share of the denominators to its rows of the result. -/
theorem tile_body (hF : (K (F := F)).Facts) (O : CellTallies nD τ sig (HIx 1)) (W : Waits sig (HIx 1)) (hO : ∀ g, O g none = 0) :
    iprop(levAts (K (F := F)).L (K (F := F)).lev ∗ emp ∗ goRes m Good d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__norm_body L uV (Memref.isWhole_whole _) eV (Memref.isWhole_whole _) oV (Memref.isWhole_whole _)
            aV (Memref.isWhole_whole _) bV (Memref.isWhole_whole _) cc1_scoped0 cc1_scoped1 cc1_scoped2)
          fun _ => iprop(tdRes Good d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__norm_body_eq_skeleton]; unfold cc1__norm_body_skel
  simp only [k1_part1_eq_skeleton, k1_part2_eq_skeleton, k1_part3_eq_skeleton, k1_part4_eq_skeleton, k1_part5_eq_skeleton,
    k1_part6_eq_skeleton, k1_part7_eq_skeleton, k1_part8_eq_skeleton]
  unfold k1_part1_skel k1_part2_skel k1_part3_skel k1_part4_skel k1_part5_skel k1_part6_skel k1_part7_skel k1_part8_skel
  rw [(K (F := F)).scopedBufs_V hF d (cV L) (jV L), SparseCore.Cfg.scopedSems0_V (Val := Elt F) d (cV L) (jV L), ownSems0_V, ownBufs_V]
  unfold goRes tdRes
  iintro ⟨#Hlv, -, ⟨%up, %d7, %hG, Hu, He, Ho⟩, ⟨⟨%fa, Ha⟩, ⟨%fb, Hb⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hu' := (Entails.of_eq (pts_uRowK (F := F) d L _).symm) $$ Hu
  ihave Ho' := (Entails.of_eq (pts_oRowK (F := F) d L _).symm) $$ Ho
  ihave He' := (Entails.of_eq (pts_eV (F := F) d L _ _).symm) $$ He
  ihave Ha' := (Entails.of_eq (pts_aV (F := F) d L _).symm) $$ Ha
  ihave Hb' := (Entails.of_eq (pts_bV (F := F) d L _).symm) $$ Hb
  sl_exec
  sl_step
  have hval : ∀ y : S2x256.Idx, tile_body.sl.dma97 d L up d7 fa fb y = tileOut L up d7 y := by
    intro y
    refine View.read_writes_apply_of_pieces _ _ (tileOut L up d7) _ ?_ y (View.cover_of_tiled _ ![1, 16] rfl y)
    refine List.forall_mem_cons.2 ⟨piece_ok L up d7 fa ![1, 240] _ 1 rfl _ (recip1 L d7 fb), ?_⟩
    refine List.forall_mem_cons.2 ⟨piece_ok L up d7 fa ![1, 224] _ 1 rfl _ (recip1 L d7 fb), ?_⟩
    refine List.forall_mem_cons.2 ⟨piece_ok L up d7 fa ![1, 208] _ 1 rfl _ (recip1 L d7 fb), ?_⟩
    refine List.forall_mem_cons.2 ⟨piece_ok L up d7 fa ![1, 192] _ 1 rfl _ (recip1 L d7 fb), ?_⟩
    refine List.forall_mem_cons.2 ⟨piece_ok L up d7 fa ![1, 176] _ 1 rfl _ (recip1 L d7 fb), ?_⟩
    refine List.forall_mem_cons.2 ⟨piece_ok L up d7 fa ![1, 160] _ 1 rfl _ (recip1 L d7 fb), ?_⟩
    refine List.forall_mem_cons.2 ⟨piece_ok L up d7 fa ![1, 144] _ 1 rfl _ (recip1 L d7 fb), ?_⟩
    refine List.forall_mem_cons.2 ⟨piece_ok L up d7 fa ![1, 128] _ 1 rfl _ (recip1 L d7 fb), ?_⟩
    refine List.forall_mem_cons.2 ⟨piece_ok L up d7 fa ![1, 112] _ 1 rfl _ (recip1 L d7 fb), ?_⟩
    refine List.forall_mem_cons.2 ⟨piece_ok L up d7 fa ![1, 96] _ 1 rfl _ (recip1 L d7 fb), ?_⟩
    refine List.forall_mem_cons.2 ⟨piece_ok L up d7 fa ![1, 80] _ 1 rfl _ (recip1 L d7 fb), ?_⟩
    refine List.forall_mem_cons.2 ⟨piece_ok L up d7 fa ![1, 64] _ 1 rfl _ (recip1 L d7 fb), ?_⟩
    refine List.forall_mem_cons.2 ⟨piece_ok L up d7 fa ![1, 48] _ 1 rfl _ (recip1 L d7 fb), ?_⟩
    refine List.forall_mem_cons.2 ⟨piece_ok L up d7 fa ![1, 32] _ 1 rfl _ (recip1 L d7 fb), ?_⟩
    refine List.forall_mem_cons.2 ⟨piece_ok L up d7 fa ![1, 16] _ 1 rfl _ (recip1 L d7 fb), ?_⟩
    refine List.forall_mem_cons.2 ⟨piece_ok L up d7 fa ![1, 0] _ 1 rfl _ (recip1 L d7 fb), ?_⟩
    refine List.forall_mem_cons.2 ⟨piece_ok L up d7 fa ![0, 240] _ 0 rfl _ (recip0 L d7 fb), ?_⟩
    refine List.forall_mem_cons.2 ⟨piece_ok L up d7 fa ![0, 224] _ 0 rfl _ (recip0 L d7 fb), ?_⟩
    refine List.forall_mem_cons.2 ⟨piece_ok L up d7 fa ![0, 208] _ 0 rfl _ (recip0 L d7 fb), ?_⟩
    refine List.forall_mem_cons.2 ⟨piece_ok L up d7 fa ![0, 192] _ 0 rfl _ (recip0 L d7 fb), ?_⟩
    refine List.forall_mem_cons.2 ⟨piece_ok L up d7 fa ![0, 176] _ 0 rfl _ (recip0 L d7 fb), ?_⟩
    refine List.forall_mem_cons.2 ⟨piece_ok L up d7 fa ![0, 160] _ 0 rfl _ (recip0 L d7 fb), ?_⟩
    refine List.forall_mem_cons.2 ⟨piece_ok L up d7 fa ![0, 144] _ 0 rfl _ (recip0 L d7 fb), ?_⟩
    refine List.forall_mem_cons.2 ⟨piece_ok L up d7 fa ![0, 128] _ 0 rfl _ (recip0 L d7 fb), ?_⟩
    refine List.forall_mem_cons.2 ⟨piece_ok L up d7 fa ![0, 112] _ 0 rfl _ (recip0 L d7 fb), ?_⟩
    refine List.forall_mem_cons.2 ⟨piece_ok L up d7 fa ![0, 96] _ 0 rfl _ (recip0 L d7 fb), ?_⟩
    refine List.forall_mem_cons.2 ⟨piece_ok L up d7 fa ![0, 80] _ 0 rfl _ (recip0 L d7 fb), ?_⟩
    refine List.forall_mem_cons.2 ⟨piece_ok L up d7 fa ![0, 64] _ 0 rfl _ (recip0 L d7 fb), ?_⟩
    refine List.forall_mem_cons.2 ⟨piece_ok L up d7 fa ![0, 48] _ 0 rfl _ (recip0 L d7 fb), ?_⟩
    refine List.forall_mem_cons.2 ⟨piece_ok L up d7 fa ![0, 32] _ 0 rfl _ (recip0 L d7 fb), ?_⟩
    refine List.forall_mem_cons.2 ⟨piece_ok L up d7 fa ![0, 16] _ 0 rfl _ (recip0 L d7 fb), ?_⟩
    refine List.forall_mem_cons.2 ⟨piece_ok L up d7 fa ![0, 0] _ 0 rfl _ (recip0 L d7 fb), ?_⟩
    exact fun p hp => absurd hp List.not_mem_nil
  have hout : ∀ j ∈ (oRowK L).view.set, (oRowK L).view.writes (Elt F) (m (oLoc d)) [⟨Rect.whole S2x256, tile_body.sl.dma97 d L up d7 fa fb⟩] j
      = scOut up d7 j := by
    intro j hj
    obtain ⟨y, -, rfl⟩ := Finset.mem_map.mp hj
    refine Eq.trans ?_ ((View.read_writes_cons_hit (oRowK L).view (m (oLoc d)) (Rect.whole S2x256)
      (tile_body.sl.dma97 d L up d7 fa fb) [] y y (Rect.emb_whole_apply S2x256 y)).trans (hval y))
    exact ((View.read_apply _ _).trans (cast_eq _ _)).symm
  isplitl [Ho']
  · iexists up, d7
    isplitr; · ipureintro; exact hG
    iapply (Entails.of_eq (pts_oRowK (F := F) d L _))
    iapply (Entails.of_eq (pointsTo_congr hout)); iexact Ho'
  isplitl [Ha' Hb' Hbufs]
  · isplitl [Ha']; · iexists _; iexact Ha'
    isplitl [Hb']; · iexists _; iexact Hb'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- The coordinates of SparseCore `c`'s tile `s`. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__norm_body (coordsV c s)
          uV (Memref.isWhole_whole _) eV (Memref.isWhole_whole _) oV (Memref.isWhole_whole _)
          aV (Memref.isWhole_whole _) bV (Memref.isWhole_whole _) cc1_scoped0 cc1_scoped1 cc1_scoped2) ⟨⟩ c s := rfl

omit [FloatOps F] in
/-- The waits a tile records are all at no call's index. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call runs its task from what it is handed to what it brings back. -/
theorem tileObl (hF : (K (F := F)).Facts) : (K (F := F)).TileObl (D (F := F)) 𝒱 (P m Good) v₀ 0 := by
  intro d c i O W hO _ _
  simp only [show (P m Good).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) Good hF O W hO).trans (wp_mono frame _ _ fun _ => obl_post)

end Cert.Proof.KI

end
-- ==== Proof.BodyI.lean ====
/-
  The TensorCore kernel's body at one grid point, as functions of the blocks it is handed.
-/
module

public import proofs.«01_k».proof.Proof.SetupI
public import proofs.«01_k».proof.Proof.Gen.KernelIdeal.Points
public import Idealize.ShloMosaic.Lib.VecWindow

@[expose] public section

noncomputable section

namespace Cert.Proof.KI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- The sums after one grid point, from the blocks and the sums before it. -/
def stepU (i : grid0.Coords) (x : Vec F S12544x256 .f32) (b : Vec F S1x1x12544 .i32) (W1 : Vec F S256x256 .f32) (b1 : Vec F S1x256 .f32)
    (W2 : Vec F S1x256 .f32) (b2 : Vec F S1x1 .f32) (u : Vec F S64x256 .f32) : Vec F S64x256 .f32 :=
  if k0_cond3 i = 1#1 then k0_pay10 i x W1 b1 W2 b2 b u
  else k0_pay6 x W1 b1 W2 b2 b (if k0_cond1 i = 1#1 then k0_pay3 else u)

/-- The denominators after one grid point, from the blocks and the denominators before it. -/
def stepD (i : grid0.Coords) (x : Vec F S12544x256 .f32) (b : Vec F S1x1x12544 .i32) (W1 : Vec F S256x256 .f32) (b1 : Vec F S1x256 .f32)
    (W2 : Vec F S1x256 .f32) (b2 : Vec F S1x1 .f32) (u : Vec F S64x128 .f32) : Vec F S64x128 .f32 :=
  if k0_cond3 i = 1#1 then k0_pay11 i x W1 b1 W2 b2 b u
  else k0_pay7 x W1 b1 W2 b2 b (if k0_cond1 i = 1#1 then k0_pay4 else u)

/-- The three kinds of grid point: the first, one between, the last. -/
def PointKind (i : grid0.Coords) : Prop :=
  (k0_cond1 i = 1#1 ∧ k0_cond2 i = 1#1 ∧ ¬ k0_cond3 i = 1#1) ∨ (¬ k0_cond1 i = 1#1 ∧ k0_cond2 i = 1#1 ∧ ¬ k0_cond3 i = 1#1)
    ∨ (¬ k0_cond1 i = 1#1 ∧ ¬ k0_cond2 i = 1#1 ∧ k0_cond3 i = 1#1)

set_option maxHeartbeats 4000000 in
/-- The body at one point: from its eight blocks held whole, it runs to its end, the six inputs as they were, the sums
    and the denominators one step further. -/
theorem body_run (c : Dev nD) (i : grid0.Coords) (hi : PointKind i)
    (M1 : Memref sig .tc .vmem S12544x256 .f32) (h1 : M1.IsWhole) (M2 : Memref sig .tc .vmem S1x1x12544 .i32) (h2 : M2.IsWhole)
    (M3 : Memref sig .tc .vmem S256x256 .f32) (h3 : M3.IsWhole) (M4 : Memref sig .tc .vmem S1x256 .f32) (h4 : M4.IsWhole)
    (M5 : Memref sig .tc .vmem S1x256 .f32) (h5 : M5.IsWhole) (M6 : Memref sig .tc .vmem S1x1 .f32) (h6 : M6.IsWhole)
    (M7 : Memref sig .tc .vmem S64x256 .f32) (h7 : M7.IsWhole) (M8 : Memref sig .tc .vmem S64x128 .f32) (h8 : M8.IsWhole)
    (x : Vec F S12544x256 .f32) (b : Vec F S1x1x12544 .i32) (W1 : Vec F S256x256 .f32) (b1 : Vec F S1x256 .f32)
    (W2 : Vec F S1x256 .f32) (b2 : Vec F S1x1 .f32) (u : Vec F S64x256 .f32) (e : Vec F S64x128 .f32) (Q : PUnit → sProp 𝕄) :
    iprop(owns (c : Thread nD τ) M1 fullShare x ∗ owns (c : Thread nD τ) M2 fullShare b ∗ owns (c : Thread nD τ) M3 fullShare W1
        ∗ owns (c : Thread nD τ) M4 fullShare b1 ∗ owns (c : Thread nD τ) M5 fullShare W2 ∗ owns (c : Thread nD τ) M6 fullShare b2
        ∗ owns (c : Thread nD τ) M7 fullShare u ∗ owns (c : Thread nD τ) M8 fullShare e
        ∗ (iprop(owns (c : Thread nD τ) M1 fullShare x ∗ owns (c : Thread nD τ) M2 fullShare b ∗ owns (c : Thread nD τ) M3 fullShare W1
            ∗ owns (c : Thread nD τ) M4 fullShare b1 ∗ owns (c : Thread nD τ) M5 fullShare W2 ∗ owns (c : Thread nD τ) M6 fullShare b2
            ∗ owns (c : Thread nD τ) M7 fullShare (stepU i x b W1 b1 W2 b2 u) ∗ owns (c : Thread nD τ) M8 fullShare (stepD i x b W1 b1 W2 b2 e))
          -∗ Q ⟨⟩))
      ⊢ wp frame (wpE (defs₀ (F := F)) 𝒱₀ c none) Set.univ (cc0__fused_body i M1 h1 M2 h2 M3 h3 M4 h4 M5 h5 M6 h6 M7 h7 M8 h8) Q := by
  rw [cc0__fused_body_eq_skeleton]
  unfold cc0__fused_body_skel stepU stepD
  rcases hi with ⟨c1, c2, c3⟩ | ⟨c1, c2, c3⟩ | ⟨c1, c2, c3⟩
  · simp only [dif_pos c1, dif_pos c2, dif_neg c3, if_pos c1, if_neg c3]
    unfold owns
    iintro ⟨⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, Hk⟩
    subst r1 r2 r3 r4 r5 r6 r7 r8
    sl_exec!
    sl_step
    iapply Hk
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]
    · iexists _; isplitr; swap; (· iexact H7); ipureintro
      refine (View.read_writes_full _ _ _ _ _).trans ?_
      congr 1 <;> first | exact View.readAt_full _ _ _ | exact View.readCov_full _ _ _ _ _
    iexists _; isplitr; swap; (· iexact H8); ipureintro
    refine (View.read_writes_full _ _ _ _ _).trans ?_
    congr 1 <;> first | exact View.readAt_full _ _ _ | exact View.readCov_full _ _ _ _ _
  · simp only [dif_neg c1, dif_pos c2, dif_neg c3, if_neg c1, if_neg c3]
    unfold owns
    iintro ⟨⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, Hk⟩
    subst r1 r2 r3 r4 r5 r6 r7 r8
    sl_exec!
    sl_step
    iapply Hk
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]
    · iexists _; isplitr; swap; (· iexact H7); ipureintro
      refine (View.read_writes_full _ _ _ _ _).trans ?_
      congr 1 <;> first | exact View.readAt_full _ _ _ | exact View.readCov_full _ _ _ _ _
    iexists _; isplitr; swap; (· iexact H8); ipureintro
    refine (View.read_writes_full _ _ _ _ _).trans ?_
    congr 1 <;> first | exact View.readAt_full _ _ _ | exact View.readCov_full _ _ _ _ _
  · simp only [dif_neg c1, dif_neg c2, dif_pos c3, if_pos c3]
    unfold owns
    iintro ⟨⟨%f1, %r1, H1⟩, ⟨%f2, %r2, H2⟩, ⟨%f3, %r3, H3⟩, ⟨%f4, %r4, H4⟩, ⟨%f5, %r5, H5⟩, ⟨%f6, %r6, H6⟩, ⟨%f7, %r7, H7⟩, ⟨%f8, %r8, H8⟩, Hk⟩
    subst r1 r2 r3 r4 r5 r6 r7 r8
    sl_exec!
    sl_step
    iapply Hk
    isplitl [H1]; · iexists _; isplitr; · ipureintro; rfl
                    iexact H1
    isplitl [H2]; · iexists _; isplitr; · ipureintro; rfl
                    iexact H2
    isplitl [H3]; · iexists _; isplitr; · ipureintro; rfl
                    iexact H3
    isplitl [H4]; · iexists _; isplitr; · ipureintro; rfl
                    iexact H4
    isplitl [H5]; · iexists _; isplitr; · ipureintro; rfl
                    iexact H5
    isplitl [H6]; · iexists _; isplitr; · ipureintro; rfl
                    iexact H6
    isplitl [H7]
    · iexists _; isplitr; swap; (· iexact H7); ipureintro
      refine (View.read_writes_full _ _ _ _ _).trans ?_
      congr 1 <;> first | exact View.readAt_full _ _ _ | exact View.readCov_full _ _ _ _ _
    iexists _; isplitr; swap; (· iexact H8); ipureintro
    refine (View.read_writes_full _ _ _ _ _).trans ?_
    congr 1 <;> first | exact View.readAt_full _ _ _ | exact View.readCov_full _ _ _ _ _

/-- Every grid point is of one of the three kinds. -/
theorem pointKind (t : Fin cfg0.N) : PointKind (grid0.coords t) := by
  rcases fin_N0 t with rfl | rfl | rfl | rfl
  · exact .inl ⟨by decide +kernel, by decide +kernel, by decide +kernel⟩
  · exact .inr (.inl ⟨by decide +kernel, by decide +kernel, by decide +kernel⟩)
  · exact .inr (.inl ⟨by decide +kernel, by decide +kernel, by decide +kernel⟩)
  · exact .inr (.inr ⟨by decide +kernel, by decide +kernel, by decide +kernel⟩)

end Cert.Proof.KI

end
-- ==== Proof.RegionI.lean ====
/-
  The TensorCore kernel's region: its proof data, the body obligation, and the region as a segment of the program —
  entered with every buffer at a valuation, left with the sums and the denominators at what the four steps may leave.
-/
module

public import proofs.«01_k».proof.Proof.BodyI
public import Idealize.ShloMosaic.Lib.Pipeline.Regions
public import Idealize.ShloMosaic.Lib.Pipeline.ArrRel

@[expose] public section

noncomputable section

namespace Cert.Proof.KI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (RDat)

variable {F : FTy → Type}

local notation "𝕄" => MT nD τ sig (HIx 1) (Elt F) ℕ UU ℕ

variable [FloatOps F]

variable (V : Dev nD → Valuation τ sig (Elt F))

/-- `X` is window `w`'s block at point `t`, read off the array at the valuation; past the array's end, anything. -/
def IsBlk (c : Dev nD) (w : Fin cfg0.W) (t : Fin cfg0.N) (X : (cfg0.win w).block.Idx → Elt F (cfg0.win w).elt) : Prop :=
  ∃ d, X = (cfg0.win w).fill (cfg0.grid.coords t) d (((cfg0.win w).blk t).view.read (Elt F) (V c (Pipeline.arrRef spec0 w)))

/-- The sums' step at point `t`: `X` is one step after `Y` with the point's blocks. -/
def RU (c : Dev nD) (t : Fin cfg0.N) (Y X : Vec F S64x256 .f32) : Prop :=
  ∃ x b W1 b1 W2 b2, IsBlk V c 0 t x ∧ IsBlk V c 1 t b ∧ IsBlk V c 2 t0_0 W1 ∧ IsBlk V c 3 t0_0 b1 ∧ IsBlk V c 4 t0_0 W2 ∧ IsBlk V c 5 t0_0 b2
    ∧ X = stepU (grid0.coords t) x b W1 b1 W2 b2 Y

/-- The denominators' step at point `t`. -/
def RD (c : Dev nD) (t : Fin cfg0.N) (Y X : Vec F S64x128 .f32) : Prop :=
  ∃ x b W1 b1 W2 b2, IsBlk V c 0 t x ∧ IsBlk V c 1 t b ∧ IsBlk V c 2 t0_0 W1 ∧ IsBlk V c 3 t0_0 b1 ∧ IsBlk V c 4 t0_0 W2 ∧ IsBlk V c 5 t0_0 b2
    ∧ X = stepD (grid0.coords t) x b W1 b1 W2 b2 Y

/-- What the sums may be after the four points. -/
def GoodU (c : Dev nD) (up : Vec F S64x256 .f32) : Prop :=
  ∃ u u0 u1 u2, RU V c t0_0 u u0 ∧ RU V c t0_1 u0 u1 ∧ RU V c t0_2 u1 u2 ∧ RU V c t0_3 u2 up

/-- What the denominators may be after the four points. -/
def GoodD (c : Dev nD) (den : Vec F S64x128 .f32) : Prop :=
  ∃ u u0 u1 u2, RD V c t0_0 u u0 ∧ RD V c t0_1 u0 u1 ∧ RD V c t0_2 u1 u2 ∧ RD V c t0_3 u2 den

/-- The proof data: the inputs' arrays at the valuation; the four constant inputs' buffers left as found; the sums and
    the denominators one step further; what the TensorCore owes the tiles' launch owed throughout. -/
def rdat (c : Dev nD) : RDat τ (Elt F) (HIx 1) ℕ UU ℕ cfg0 c where
  A w := V c (Pipeline.arrRef spec0 w)
  after w t := match w with
    | ⟨0, _⟩ => fun _ _ => True
    | ⟨1, _⟩ => fun _ _ => True
    | ⟨2, _⟩ => fun Y X => X = Y
    | ⟨3, _⟩ => fun Y X => X = Y
    | ⟨4, _⟩ => fun Y X => X = Y
    | ⟨5, _⟩ => fun Y X => X = Y
    | ⟨6, _⟩ => fun Y X => RU V c t Y X
    | ⟨7, _⟩ => fun Y X => RD V c t Y X
  Φ _ := BI.emp
  q _ := fullShare
  owed _ := (K (F := F)).Otc c 0
  recorded _ := {p | (K (F := F)).lev ((c : Thread nD τ), p.1) p.2 ≤ 0}

/-- A window fetched at every point holds its block there. -/
theorem finds_blk (c : Dev nD) (w : Fin cfg0.W) (t : Fin cfg0.N) (hf : (cfg0.win w).fetch t = true) (X) (h : (rdat V c).Finds w t X) :
    IsBlk V c w t X :=
  ((rdat V c).finds_of_fetch hf X).mp h

/-- A window fetched at the first point only, never written back, its buffer left as found, holds its first block
    at every point. -/
theorem finds_const (c : Dev nD) (w : Fin cfg0.W) (hf : ∀ t : Fin cfg0.N, (cfg0.win w).fetch t = true ↔ t.val % 4 = 0)
    (hfl : ∀ t : Fin cfg0.N, (cfg0.win w).flush t = false) (ha : ∀ t Y X, (rdat V c).after w t Y X → X = Y) :
    ∀ (n : ℕ) (t : Fin cfg0.N), t.val = n → ∀ X, (rdat V c).Finds w t X → IsBlk V c w t0_0 X := by
  intro n
  induction n with
  | zero =>
    intro t ht X h
    obtain rfl : t = t0_0 := Fin.ext ht
    exact finds_blk V c w _ ((hf _).mpr (by rw [ht])) X h
  | succ n ih =>
    intro t ht X h
    have hlt : t.val < 4 := t.isLt
    have hf' : (cfg0.win w).fetch t = false := by
      cases hh : (cfg0.win w).fetch t
      · rfl
      · have := (hf t).mp hh; omega
    rcases ((rdat V c).finds_of_pos hf' (by omega) X).mp h with h' | ⟨Y, hY, hXY⟩
    · rw [hfl] at h'; cases h'
    · rw [ha _ _ _ hXY]
      exact ih _ (by show t.val - 1 = n; omega) Y hY

/-- An output never fetched is, after the first point, what the point before may have left. -/
theorem finds_out (c : Dev nD) (w : Fin cfg0.W) (t : Fin cfg0.N) (t' : Fin cfg0.N) (ht : t.val = t'.val + 1) (hf : (cfg0.win w).fetch t = false)
    (hfl : (cfg0.win w).flush t' = false) (X) (h : (rdat V c).Finds w t X) : (rdat V c).Leaves w t' X := by
  rcases ((rdat V c).finds_of_pos hf (by omega) X).mp h with h' | h'
  · rw [show (⟨t.val - 1, Nat.lt_of_le_of_lt (Nat.sub_le _ _) t.isLt⟩ : Fin cfg0.N) = t' from Fin.ext (by show t.val - 1 = _; omega), hfl] at h'
    cases h'
  · rwa [show (⟨t.val - 1, Nat.lt_of_le_of_lt (Nat.sub_le _ _) t.isLt⟩ : Fin cfg0.N) = t' from Fin.ext (by show t.val - 1 = _; omega)] at h'

/-- What the last point may leave in the sums' buffer. -/
theorem leaves_U (c : Dev nD) (X : Vec F S64x256 .f32) (h : (rdat V c).Leaves 6 t0_3 X) : GoodU V c X := by
  obtain ⟨u2, h2, r3⟩ := h
  obtain ⟨u1, h1, r2⟩ := finds_out V c 6 t0_3 t0_2 rfl (by decide +kernel) (by decide +kernel) u2 h2
  obtain ⟨u0, h0, r1⟩ := finds_out V c 6 t0_2 t0_1 rfl (by decide +kernel) (by decide +kernel) u1 h1
  obtain ⟨u, -, r0⟩ := finds_out V c 6 t0_1 t0_0 rfl (by decide +kernel) (by decide +kernel) u0 h0
  exact ⟨u, u0, u1, u2, r0, r1, r2, r3⟩

/-- What the last point may leave in the denominators' buffer. -/
theorem leaves_D (c : Dev nD) (X : Vec F S64x128 .f32) (h : (rdat V c).Leaves 7 t0_3 X) : GoodD V c X := by
  obtain ⟨u2, h2, r3⟩ := h
  obtain ⟨u1, h1, r2⟩ := finds_out V c 7 t0_3 t0_2 rfl (by decide +kernel) (by decide +kernel) u2 h2
  obtain ⟨u0, h0, r1⟩ := finds_out V c 7 t0_2 t0_1 rfl (by decide +kernel) (by decide +kernel) u1 h1
  obtain ⟨u, -, r0⟩ := finds_out V c 7 t0_1 t0_0 rfl (by decide +kernel) (by decide +kernel) u0 h0
  exact ⟨u, u0, u1, u2, r0, r1, r2, r3⟩

/-- The body obligation: at each point, from the blocks the windows may hold, the body runs and leaves the inputs as
    they were and the two results one step further. -/
theorem body_obligation (c : Dev nD) : (rdat V c).BodyObligation (defs₀ (F := F)) 𝒱₀ (none : HIx 1) Set.univ := fun t Y hY => by
  have b0 := finds_blk V c 0 t (fetch0_0 t) (Y 0) (hY 0)
  have b1 := finds_blk V c 1 t (fetch0_1 t) (Y 1) (hY 1)
  have b2 := finds_const V c 2 fetch0_2 (by decide +kernel) (fun _ _ _ h => h) _ t rfl (Y 2) (hY 2)
  have b3 := finds_const V c 3 fetch0_3 (by decide +kernel) (fun _ _ _ h => h) _ t rfl (Y 3) (hY 3)
  have b4 := finds_const V c 4 fetch0_4 (by decide +kernel) (fun _ _ _ h => h) _ t rfl (Y 4) (hY 4)
  have b5 := finds_const V c 5 fetch0_5 (by decide +kernel) (fun _ _ _ h => h) _ t rfl (Y 5) (hY 5)
  rw [bigSep_W0, bigSep_W0]
  iintro ⟨HΦ, Howes, H0, H1, H2, H3, H4, H5, H6, H7⟩
  iapply (body_run c (grid0.coords t) (pointKind t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7))
    (Y 0) (Y 1) (Y 2) (Y 3) (Y 4) (Y 5) (Y 6) (Y 7))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]
  · rw [show (rdat V c).Φ t.succ = (rdat V c).Φ t.castSucc from rfl]; iexact HΦ
  isplitl [Howes]; · iexact Howes
  isplitl [H0]; · iexists _; isplitr; swap; (· iexact H0); ipureintro; exact trivial
  isplitl [H1]; · iexists _; isplitr; swap; (· iexact H1); ipureintro; exact trivial
  isplitl [H2]; · iexists _; isplitr; swap; (· iexact H2); ipureintro; exact rfl
  isplitl [H3]; · iexists _; isplitr; swap; (· iexact H3); ipureintro; exact rfl
  isplitl [H4]; · iexists _; isplitr; swap; (· iexact H4); ipureintro; exact rfl
  isplitl [H5]; · iexists _; isplitr; swap; (· iexact H5); ipureintro; exact rfl
  isplitl [H6]
  · iexists _; isplitr; swap; (· iexact H6); ipureintro
    exact ⟨Y 0, Y 1, Y 2, Y 3, Y 4, Y 5, b0, b1, b2, b3, b4, b5, rfl⟩
  iexists _; isplitr; swap; (· iexact H7); ipureintro
  exact ⟨Y 0, Y 1, Y 2, Y 3, Y 4, Y 5, b0, b1, b2, b3, b4, b5, rfl⟩

/-! ## The region as a segment -/

abbrev adm : (p : Fin 1) → (pcfgs (F := F) p).Adm := fun p => (cfgs p).toPCfg_adm

/-- The proof data of the one pipeline. -/
def rdats : (p : Fin 1) → (c : Dev nD) → RDat τ (Elt F) (HIx 1) ℕ UU ℕ (Pipeline.pin (pcfgs (F := F)) adm p) c
  | ⟨0, _⟩ => fun c => rdat V c

/-- The valuation with the two results replaced. -/
def upd (W : Valuation τ sig (Elt F)) (up : Vec F S64x256 .f32) (den : Vec F S64x128 .f32) : Valuation τ sig (Elt F) :=
  Function.update (Function.update W (Proc.devRef .tc main_v5_0) up) (Proc.devRef .tc main_v5_1) den

/-- What the TensorCore owes before the tiles' launch, every wait so far at the lowest level. -/
def tcOwes (c : Dev nD) : sProp 𝕄 :=
  iprop(∃ W, ⌜(K (F := F)).WBelow (c : Thread nD τ) W 0⌝ ∗ owes (c : Thread nD τ) ((K (F := F)).Otc c 0) W)

theorem owed_none (c : Dev nD) (g : GSem nD τ sig) : (K (F := F)).Otc c 0 g none = 0 := by
  unfold SparseCore.Cfg.Otc
  rw [Finset.sum_apply, Finsupp.finsetSum_apply]
  refine Finset.sum_eq_zero fun q _ => ?_
  rw [if_pos (Nat.zero_le _), Finset.sum_apply, Finsupp.finsetSum_apply]
  refine Finset.sum_eq_zero fun i _ => ?_
  rw [tallyAt_apply, if_neg (by rintro ⟨_, h⟩; cases h)]

theorem upd_v5_0 (W : Valuation τ sig (Elt F)) (up : Vec F S64x256 .f32) (den : Vec F S64x128 .f32) : upd W up den main_v5_0 = up := by
  unfold upd
  rw [Function.update_of_ne (StableHlo.devRef_ne_of_ne (by decide)), Function.update_self]
theorem upd_v5_1 (W : Valuation τ sig (Elt F)) (up : Vec F S64x256 .f32) (den : Vec F S64x128 .f32) : upd W up den main_v5_1 = den := by
  unfold upd
  rw [Function.update_self]
theorem upd_ne (W : Valuation τ sig (Elt F)) (up : Vec F S64x256 .f32) (den : Vec F S64x128 .f32) (b : Ref sig .tc) (h0 : b ≠ main_v5_0)
    (h1 : b ≠ main_v5_1) : upd W up den b = W b := by
  unfold upd
  rw [Function.update_of_ne (StableHlo.devRef_ne_of_ne h1), Function.update_of_ne (StableHlo.devRef_ne_of_ne h0)]

theorem whole6 : (cfg0.win 6).WholeAt t0_3 := by decide +kernel
theorem whole7 : (cfg0.win 7).WholeAt t0_3 := by decide +kernel

/-- What the sums' array may hold after every write-back is what the last point may leave. -/
theorem arr_U (c : Dev nD) (G : Vec F S64x256 .f32) (h : (rdat V c).ArrAt 6 cfg0.N G) : GoodU V c G := by
  obtain ⟨X, hX, e⟩ := RDat.ArrAt.emb_eq_of_wholeAt (rd := rdat V c) h whole6
  have hGX : G = X := funext fun j => e j
  rw [hGX]
  exact leaves_U V c X hX
/-- What the denominators' array may hold after every write-back is what the last point may leave. -/
theorem arr_D (c : Dev nD) (G : Vec F S64x128 .f32) (h : (rdat V c).ArrAt 7 cfg0.N G) : GoodD V c G := by
  obtain ⟨X, hX, e⟩ := RDat.ArrAt.emb_eq_of_wholeAt (rd := rdat V c) h whole7
  have hGX : G = X := funext fun j => e j
  rw [hGX]
  exact leaves_D V c X hX

/-- What an input's array may hold at the end is what it held. -/
theorem arr_in (c : Dev nD) (w : Fin cfg0.W) (hin : (cfg0.win w).isOut = false) (G) (h : (rdat V c).ArrAt w cfg0.N G) :
    G = V c (Pipeline.arrRef spec0 w) := by
  rw [(rdat V c).ArrAt_in w hin] at h; exact h

/-- Beside the windows' arrays the replaced valuation is the valuation. -/
theorem rest_upd (c : Dev nD) (up : Vec F S64x256 .f32) (den : Vec F S64x128 .f32) :
    (Pipeline.unscopedRest (Ix := HIx 1) (Name := ℕ) (U := UU) (Lvl := ℕ) spec0 c (fun b => upd (V c) up den b) : sProp 𝕄)
      = Pipeline.unscopedRest spec0 c (fun b => V c b) := by
  unfold Pipeline.unscopedRest
  refine BI.bigSep_congr fun b hb => ?_
  have hb' := (Finset.mem_sdiff.mp hb).2
  have n6 : b ≠ main_v5_0 := fun h => hb' (Finset.mem_image.mpr ⟨6, Finset.mem_univ _, h.symm⟩)
  have n7 : b ≠ main_v5_1 := fun h => hb' (Finset.mem_image.mpr ⟨7, Finset.mem_univ _, h.symm⟩)
  exact congrArg (fun f => (((c.tc : Thread nD τ).loc b) ↦{fullShare} f : sProp 𝕄)) (upd_ne (V c) up den b n6 n7)

set_option backward.isDefEq.respectTransparency.types false in
/-- The arrays at the end and the buffers beside them are every buffer at the valuation with the results replaced. -/
theorem exit_bufs (c : Dev nD) :
    iprop((rdat V c).arraysAt cfg0.N ∗ Pipeline.unscopedRest (Ix := HIx 1) (Name := ℕ) (U := UU) (Lvl := ℕ) spec0 c (fun b => V c b))
      ⊢ (iprop(∃ up den, ⌜GoodU V c up ∧ GoodD V c den⌝ ∗ unscopedBufs c (fun b => upd (V c) up den b)) : sProp 𝕄) := by
  have hA := RDat.arraysAt_eq (pcfgs (F := F)) adm (rdats V) (p := 0) c launch0.arr_whole ((rdats V 0 c).share_full fun _ => rfl) cfg0.N
  rw [show (rdat V c).arraysAt cfg0.N = (rdats V 0 c).arraysAt cfg0.N from rfl, hA, bigSep_W0]
  iintro ⟨⟨⟨%G0, %h0, H0⟩, ⟨%G1, %h1, H1⟩, ⟨%G2, %h2, H2⟩, ⟨%G3, %h3, H3⟩, ⟨%G4, %h4, H4⟩, ⟨%G5, %h5, H5⟩, ⟨%G6, %h6, H6⟩, ⟨%G7, %h7, H7⟩⟩, Hr⟩
  have e0 := arr_in V c 0 rfl G0 h0
  have e1 := arr_in V c 1 rfl G1 h1
  have e2 := arr_in V c 2 rfl G2 h2
  have e3 := arr_in V c 3 rfl G3 h3
  have e4 := arr_in V c 4 rfl G4 h4
  have e5 := arr_in V c 5 rfl G5 h5
  have gU := arr_U V c G6 h6
  have gD := arr_D V c G7 h7
  subst e0 e1 e2 e3 e4 e5
  iexists G6; iexists G7
  isplitr; · ipureintro; exact ⟨gU, gD⟩
  rw [Pipeline.unscopedBufs_split (Pipeline.pin (pcfgs (F := F)) adm) 0 launch0.win.arr_unscoped launch0.win.arr_inj c
    (fun b => upd (V c) G6 G7 b), bigSep_W0]
  isplitr [Hr]
  · isplitl [H0]; · erw [upd_ne _ _ _ main_arg0 (by decide) (by decide)]; iexact H0
    isplitl [H1]; · erw [upd_ne _ _ _ main_v1 (by decide) (by decide)]; iexact H1
    isplitl [H2]; · erw [upd_ne _ _ _ main_arg2 (by decide) (by decide)]; iexact H2
    isplitl [H3]; · erw [upd_ne _ _ _ main_v2 (by decide) (by decide)]; iexact H3
    isplitl [H4]; · erw [upd_ne _ _ _ main_v3 (by decide) (by decide)]; iexact H4
    isplitl [H5]; · erw [upd_ne _ _ _ main_v4 (by decide) (by decide)]; iexact H5
    isplitl [H6]; · erw [upd_v5_0]; iexact H6
    erw [upd_v5_1]; iexact H7
  ihave Hr := (Entails.of_eq (rest_upd V c G6 G7).symm) $$ Hr
  iexact Hr

/-- Every pair the region's own waits record sits at the lowest level. -/
theorem exit_owes (c : Dev nD) : ((rdat V c).owesAt (none : HIx 1) (Fin.last cfg0.N) : sProp 𝕄) ⊢ tcOwes c := by
  unfold tcOwes RDat.owesAt Pipeline.owesWithin
  iintro ⟨%W, %hW, HO⟩
  iexists W
  isplitr
  · ipureintro
    intro p hp
    rcases hW hp with h | h
    · exact h
    · obtain ⟨_, _, rfl⟩ := h
      exact Nat.le_of_eq rfl
  iexact HO

set_option backward.isDefEq.respectTransparency.types false in
/-- The region: entered with every buffer at the valuation, left with the sums and the denominators replaced by what
    the four points may leave, every other buffer untouched. -/
def reg : RDat.RegionSeg (pcfgs (F := F)) adm (rdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := body_obligation V c
  hwaits c := RDat.cellsWaits_intro _ _ _ _ c fun w s t => (K (F := F)).mayWait_none _ (owed_none c)
  pre c := iprop(unscopedBufs c (fun b => V c b) ∗ tcOwes c)
  post c := iprop(∃ up den, ⌜GoodU V c up ∧ GoodD V c den⌝ ∗ unscopedBufs c (fun b => upd (V c) up den b) ∗ tcOwes c)
  X _ := BI.emp
  Y _ := BI.emp
  Z c := Pipeline.unscopedRest (Ix := HIx 1) (Name := ℕ) (U := UU) (Lvl := ℕ) spec0 c (fun b => V c b)
  hentry c := by
    rw [Pipeline.ownSems0_none]
    have hsplit := RDat.arrays_of_unscopedBufs (p := 0) (pcfgs (F := F)) adm (rdats V) launch0.win launch0.arr_whole c
      ((rdats V 0 c).share_full fun _ => rfl) (fun b => V c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold tcOwes RDat.owesAt Pipeline.owesWithin
      icases HO with ⟨%W, %hW, HO⟩; iexists W; isplitr; · ipureintro; exact fun p hp => Or.inl (hW p hp)
      iexact HO
    isplitr; · iempintro
    iexact Hrest
  hin c := by
    rw [show (rdats V 0 c).Φ 0 = BI.emp from rfl]
    iintro -; iempintro
  hout c := by
    rw [Pipeline.ownSems0_none, show (rdats V 0 c).Φ (Fin.last _) = BI.emp from rfl]
    rw [show Pipeline.scopedRest (Pipeline.pin (pcfgs (F := F)) adm 0).spec c = (BI.emp : sProp 𝕄) from scopedRest0_eq c]
    iintro -
    isplitr; · iempintro
    isplitr; · iempintro
    iempintro
  hexit c := by
    iintro ⟨Ha, HO, -, Hr⟩
    ihave H := (exit_bufs V c) $$ [Ha Hr]
    · isplitl [Ha]; · iexact Ha
      iexact Hr
    icases H with ⟨%up, %den, %hg, Hb⟩
    ihave HO := (show ((rdats V 0 c).owesAt (none : HIx 1) (Fin.last (Pipeline.pin (pcfgs (F := F)) adm 0).N) : sProp 𝕄) ⊢ tcOwes c
      from exit_owes V c) $$ HO
    imodintro
    iexists up; iexists den
    isplitr; · ipureintro; exact hg
    isplitl [Hb]; · iexact Hb
    iexact HO

end Cert.Proof.KI

end
-- ==== Proof.RunI.lean ====
/-
  The kernel's whole run: the host operations before the TensorCore kernel, its region, the two operations after it,
  the call to the tiles; and what the launch theorem makes of it.
-/
module

public import proofs.«01_k».proof.Proof.TileI
public import proofs.«01_k».proof.Proof.RegionI

@[expose] public section

noncomputable section

namespace Cert.Proof.KI

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat cellsGhost toksInit)

variable {F : FTy → Type} [FloatOps F]

local notation "𝕄" => MT nD τ sig (HIx 1) (Elt F) ℕ UU ℕ

/-! ## The host's operations -/

/-- Before the TensorCore kernel: the padded batch in its four blocks, and three reshapes. -/
def ops1 : List (HloOp τ sig (Elt F)) :=
  [StableHlo.nullary main_c (constantI S_ 32 0#32),
   StableHlo.TRef.unary (.of main_c) main_call0.v0 id,
   StableHlo.TRef.binary (.of main_arg1 : StableHlo.TRef sig ⟨S50000, .i32⟩) main_call0.v0 main_call0.v1 (fun x v => pad S50176 ![0] ![176] ![0] x v pads_S50000_S50176_01760 h_S_),
   StableHlo.reshape main_v0 main_v1 (rfl : (.i32 : EltTy) = .i32) shapeCasts_S50176_S4x1x12544,
   StableHlo.reshape main_arg3 main_v2 (rfl : (.f32 : EltTy) = .f32) shapeCasts_S256_S1x256,
   StableHlo.reshape main_arg4 main_v3 (rfl : (.f32 : EltTy) = .f32) shapeCasts_S256x1_S1x256,
   StableHlo.reshape main_arg5 main_v4 (rfl : (.f32 : EltTy) = .f32) shapeCasts_S1_S1x1]

/-- After it: column 0 of the denominators, as a vector of 64. -/
def ops2 : List (HloOp τ sig (Elt F)) :=
  [StableHlo.unary main_v5_1 main_v6 ((extractStridedSlice S64x1 ![0, 0] · slices_S64x128_S64x1_0_0) : (⟨S64x128, .f32⟩ : BufTy).Contents (Elt F) → (⟨S64x1, .f32⟩ : BufTy).Contents (Elt F)),
   StableHlo.reshape main_v6 main_v7 (rfl : (.f32 : EltTy) = .f32) shapeCasts_S64x1_S64]

/-- @main is those two lines, around the TensorCore kernel's call, and the call to the tiles. -/
theorem main_eq (d : Dev nD) : main (F := F) d = (StableHlo.seq ops1 >>= fun _ =>
    (Prog.lift (.customCall (SparseCore.inner (Pipeline.entry 0)) ()) : Prog (TpuEff nD τ sig (Elt F) _ .tc) PUnit) >>= fun _ =>
    StableHlo.seq ops2 >>= fun _ => sc.run d 0) := by
  simp only [main, fn_pad.body, ops1, ops2, StableHlo.seq, bind_assoc, pure_bind]
  rfl

theorem ops1_fresh : ∀ op ∈ (ops1 (F := F)), op.fresh = ∅ :=
  List.forall_iff_forall_mem.mp (show (ops1 (F := F)).Forall fun op => op.fresh = ∅ from ⟨rfl, rfl, rfl, rfl, rfl, rfl, rfl⟩)
theorem ops2_fresh : ∀ op ∈ (ops2 (F := F)), op.fresh = ∅ :=
  List.forall_iff_forall_mem.mp (show (ops2 (F := F)).Forall fun op => op.fresh = ∅ from ⟨rfl, rfl⟩)

/-- The TensorCore's buffers that live through the program, as device buffers. -/
def ucRefs : Finset (DevRef τ sig) := (StableHlo.tcRefs τ sig).filter fun b => ¬ b.isScoped

/-- Those buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- A host operation on the TensorCore's references names none but those. -/
theorem within (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

theorem ops1_tc : (ops1 (F := F)).Forall fun op => op.bufs ⊆ StableHlo.tcRefs τ sig :=
  ⟨StableHlo.nullary_bufs_sub _ _ _, StableHlo.unary_bufs_sub _ _ _ _ _, StableHlo.binary_bufs_sub _ _ _ _ _ _ _, StableHlo.reshape_bufs_sub _ _ _ _ _ _,
    StableHlo.reshape_bufs_sub _ _ _ _ _ _, StableHlo.reshape_bufs_sub _ _ _ _ _ _, StableHlo.reshape_bufs_sub _ _ _ _ _ _⟩
theorem ops2_tc : (ops2 (F := F)).Forall fun op => op.bufs ⊆ StableHlo.tcRefs τ sig :=
  ⟨StableHlo.unary_bufs_sub _ _ _ _ _, StableHlo.reshape_bufs_sub _ _ _ _ _ _⟩
theorem ops1_sub : ∀ op ∈ (ops1 (F := F)), op.bufs ⊆ ucRefs := fun op h => within op (List.forall_iff_forall_mem.mp ops1_tc op h)
theorem ops2_sub : ∀ op ∈ (ops2 (F := F)), op.bufs ⊆ ucRefs := fun op h => within op (List.forall_iff_forall_mem.mp ops2_tc op h)

/-! ## What the buffers hold on the way -/

variable (m : (ℓ : Loc nD τ sig) → Buf (Elt F) ℓ) (ρ : Dev nD → PrngReg)

/-- The launch's contents. -/
def Vl (d : Dev nD) : Valuation τ sig (Elt F) := fun b => m (d, b)
/-- What the TensorCore kernel is entered with. -/
def V1 (d : Dev nD) : Valuation τ sig (Elt F) := StableHlo.after ops1 (Vl m d)
/-- What the tiles are entered with, after sums `up` and denominators `den`. -/
def V2 (d : Dev nD) (up : Vec F S64x256 .f32) (den : Vec F S64x128 .f32) : Valuation τ sig (Elt F) := StableHlo.after ops2 (upd (V1 m d) up den)

/-- Column 0 of the denominators. -/
def den0 (den : Vec F S64x128 .f32) : DenC F := shapeCast S64 (extractStridedSlice S64x1 ![0, 0] den slices_S64x128_S64x1_0_0) shapeCasts_S64x1_S64

/-- The sums and the denominators that the TensorCore kernel may leave. -/
def Good (up : UpC F) (d7 : DenC F) : Prop := ∃ den, GoodU (V1 m) 0 up ∧ GoodD (V1 m) 0 den ∧ d7 = den0 den

theorem V2_v7 (d : Dev nD) (up den) : V2 m d up den main_v7 = den0 den := by
  unfold V2 ops2
  rw [StableHlo.after_cons, StableHlo.after_cons, StableHlo.after_nil, StableHlo.reshape_result, StableHlo.unary_result, upd_v5_1]
  rfl

theorem V2_ne (d : Dev nD) (up den) (b : Ref sig .tc) (h6 : b ≠ main_v6) (h7 : b ≠ main_v7) : V2 m d up den b = upd (V1 m d) up den b := by
  refine StableHlo.after_of_writes_sub (W := [main_v6, main_v7]) ops2 _ ?_ (by simp [h6, h7])
  exact StableHlo.forall_writes_sub_of_map rfl

theorem V1_ne (d : Dev nD) (b : Ref sig .tc) (h : b ∉ [main_c, main_call0_v0, main_v0, main_v1, main_v2, main_v3, main_v4]) : V1 m d b = m (d, Proc.devRef .tc b) := by
  refine StableHlo.after_of_writes_sub (W := [main_c, main_call0_v0, main_v0, main_v1, main_v2, main_v3, main_v4]) ops1 _ ?_ h
  exact StableHlo.forall_writes_sub_of_map rfl

/-! ## What the call to the tiles takes and brings, of the whole arrays -/

theorem rows_disjoint : ∀ t ∈ (Finset.univ : Finset (Fin 32)), ∀ t' ∈ (Finset.univ : Finset (Fin 32)), t ≠ t' → Disjoint (rowSet t) (rowSet t') :=
  fun _ _ _ _ h => Rect.part_disjoint rdiv h
theorem rows_cover : Finset.univ.biUnion rowSet = (Finset.univ : Finset S64x256.Idx) := Rect.biUnion_part rdiv

/-- What the tiles take, tile by tile, is what the SparseCores take. -/
theorem st_tiles (G : UpC F → DenC F → Prop) (d : Dev nD) : (bigSep Finset.univ fun c : Fin ((K (F := F)).nCore 0) => (P m G).st 0 d c)
    = bigSep Finset.univ fun w : Fin 32 => goRes m G d w := by
  rw [BI.bigSep_univ_equiv wid, BI.bigSep_univ_prod]; rfl
/-- What the SparseCores bring is what the tiles bring, tile by tile. -/
theorem dn_tiles (G : UpC F → DenC F → Prop) (d : Dev nD) : (bigSep Finset.univ fun c : Fin ((K (F := F)).nCore 0) => (P m G).dn 0 d c)
    = bigSep Finset.univ fun w : Fin 32 => tdRes G d w := by
  rw [BI.bigSep_univ_equiv wid, BI.bigSep_univ_prod]; rfl

/-- The table of denominators whole is its 32 shares. -/
theorem den_shares (d : Dev nD) (f : Buf (Elt F) (eLoc d)) :
    (eLoc d ↦{fullShare} f : sProp 𝕄) = bigSep Finset.univ fun w : Fin 32 => eLoc d ↦{eq w} f :=
  ShareLeaves.pointsTo_leaves Finset.univ f 5 fullShare

/-- The sums, the denominators and the result's buffer, whole, are what the tiles are handed. -/
theorem st_intro (G : UpC F → DenC F → Prop) (d : Dev nD) (up : UpC F) (d7 : DenC F) (hG : G up d7) :
    iprop((uLoc d ↦{fullShare} up) ∗ (eLoc d ↦{fullShare} d7) ∗ (oLoc d ↦{fullShare} m (oLoc d)))
      ⊢ (bigSep Finset.univ fun c : Fin ((K (F := F)).nCore 0) => (P m G).st 0 d c : sProp 𝕄) := by
  rw [st_tiles]
  have eU : (uLoc d ↦{fullShare} up : sProp 𝕄) = bigSep Finset.univ fun w : Fin 32 => uLoc d ↦[rowSet w]{fullShare} up := by
    rw [← pointsTo_biUnion Finset.univ (ℓ := uLoc d) rowSet rows_disjoint, rows_cover]
  have eO : (oLoc d ↦{fullShare} m (oLoc d) : sProp 𝕄) = bigSep Finset.univ fun w : Fin 32 => oLoc d ↦[rowSet w]{fullShare} m (oLoc d) := by
    rw [← pointsTo_biUnion Finset.univ (ℓ := oLoc d) rowSet rows_disjoint, rows_cover]
  have eE : (eLoc d ↦{fullShare} d7 : sProp 𝕄) = bigSep Finset.univ fun w : Fin 32 => eLoc d ↦{eq w} d7 :=
    den_shares d d7
  rw [eU, eO, eE, ← bigSep_sep', ← bigSep_sep']
  refine BI.bigSep_mono fun w _ => ?_
  unfold goRes
  show iprop((uLoc d ↦[rowSet w]{fullShare} up) ∗ (eLoc d ↦{eq w} d7) ∗ oLoc d ↦[rowSet w]{fullShare} m (oLoc d)) ⊢ (_ : sProp 𝕄)
  iintro ⟨H1, H2, H3⟩
  iexists up; iexists d7
  isplitr; · ipureintro; exact hG
  isplitl [H1]; · iexact H1
  isplitl [H2]; · iexact H2
  iexact H3

/-- What the tiles bring is the result's buffer whole, at each index the normalised sum of what they may have found. -/
theorem dn_elim (G : UpC F → DenC F → Prop) (d : Dev nD) (hne : ∃ up d7, G up d7) :
    (bigSep Finset.univ fun c : Fin ((K (F := F)).nCore 0) => (P m G).dn 0 d c)
      ⊢ (iprop(∃ g : UpC F, ⌜∀ j, ∃ up d7, G up d7 ∧ g j = scOut up d7 j⌝ ∗ (oLoc d ↦{fullShare} g)) : sProp 𝕄) := by
  rw [dn_tiles]
  have : Nonempty {f : UpC F // ∃ up d7, G up d7 ∧ f = scOut up d7} := by
    obtain ⟨up, d7, h⟩ := hne; exact ⟨⟨_, up, d7, h, rfl⟩⟩
  have h1 : (bigSep Finset.univ fun w : Fin 32 => tdRes G d w)
      ⊢ (bigSep Finset.univ fun w : Fin 32 => iprop(∃ f : {f : UpC F // ∃ up d7, G up d7 ∧ f = scOut up d7}, oLoc d ↦[rowSet w]{fullShare} f.1) : sProp 𝕄) := by
    refine BI.bigSep_mono fun w _ => ?_
    unfold tdRes
    show iprop(∃ up d7, ⌜G up d7⌝ ∗ oLoc d ↦[rowSet w]{fullShare} scOut (F := F) up d7) ⊢ (_ : sProp 𝕄)
    iintro ⟨%up, %d7, %h, H⟩
    iexists (⟨scOut up d7, up, d7, h, rfl⟩ : {f : UpC F // ∃ up d7, G up d7 ∧ f = scOut up d7})
    iexact H
  refine h1.trans ((BI.bigSep_exists_pi Finset.univ
    (fun (w : Fin 32) (f : {f : UpC F // ∃ up d7, G up d7 ∧ f = scOut up d7}) => (oLoc d ↦[rowSet w]{fullShare} f.1 : sProp 𝕄))).trans ?_)
  iintro ⟨%fs, H⟩
  ihave H' := (pointsTo_biUnion_join (ℓ := oLoc d) (q := fullShare) (Val := Elt F) Finset.univ rowSet (fun w => (fs w).1) (fs 0).1 rows_disjoint) $$ H
  icases H' with ⟨%g, %hg, Hg⟩
  rw [rows_cover]
  iexists g
  isplitr
  · ipureintro
    intro j
    have hj : j ∈ Finset.univ.biUnion rowSet := by rw [rows_cover]; exact Finset.mem_univ j
    obtain ⟨w, hw, hjw⟩ := Finset.mem_biUnion.mp hj
    obtain ⟨up, d7, h, e⟩ := (fs w).2
    exact ⟨up, d7, h, by rw [hg w hw j hjw, e]⟩
  iexact Hg

/-! ## The launch element of the ghost state -/

/-- The pipeline's buffers' semaphores name distinct cells. -/
theorem cells_inj : Function.Injective (Pipeline.cellOf (nD := nD) (τ := τ) (Pipeline.pin (pcfgs (F := F)) adm)) := cellOf_inj

def u₀ : UU := (initOf (K (F := F)).hsCells (K (F := F)).hsToks,
  (initOf (Pipeline.cells (Pipeline.pin (pcfgs (F := F)) adm) cells_inj) (Pipeline.launchToks (Pipeline.pin (pcfgs (F := F)) adm) cells_inj), 1))

/-- What the TensorCore's region needs of the ghost state. -/
abbrev Gh (d : Dev nD) : sProp 𝕄 :=
  iprop(cellsGhost (Pipeline.pin (pcfgs (F := F)) adm) EP 0 d ∗ toksInit (Pipeline.pin (pcfgs (F := F)) adm) EP 0 d)

instance ep_lands : (EP (F := F)).LandsIn (upEmb : UEmb _ 𝕄) := by unfold EP; infer_instance

theorem hu₀ (G : UpC F → DenC F → Prop) : (ownU (u₀ (F := F)) : sProp 𝕄)
    ⊢ |={Set.univ}=> iprop(BI.own (EH (initOf (K (F := F)).hsCells (K (F := F)).hsToks)) ∗ (bigSep Finset.univ fun d : Dev nD => Gh d)
        ∗ bigSep Finset.univ fun thr : Thread nD τ => bigSep Finset.univ fun q : Fin 1 => (P m G).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  ihave H := (Pipeline.fund_ghost (Pipeline.pin (pcfgs (F := F)) adm) EP cells_inj) $$ HP
  imod H with ⟨H1, H2⟩
  imodintro
  isplitl [HH]; · iexact HH
  isplitl [H1 H2]
  · rw [bigSep_sep']
    isplitl [H1]
    · iapply (Entails.of_eq (BI.bigSep_congr fun d _ => bigSep_univ_of_subsingleton (0 : Fin 1))) $$ H1
    iapply (Entails.of_eq (BI.bigSep_congr fun d _ => bigSep_univ_of_subsingleton (0 : Fin 1))) $$ H2
  rw [show (bigSep Finset.univ fun thr : Thread nD τ => bigSep Finset.univ fun q : Fin 1 => (P (F := F) m G).x q thr) = bigSep Finset.univ fun _ => iprop(emp) from
    bigSep_congr fun _ _ => bigSep_univ_of_subsingleton (0 : Fin 1),
    show (bigSep (Finset.univ : Finset (Thread nD τ)) fun _ => iprop(emp)) = (iprop(emp) : sProp 𝕄) from BI.bigSep_emp_const _]
  iempintro

/-! ## @main on the TensorCore -/

set_option maxRecDepth 4096 in
/-- The buffers that live through the program, one by one. -/
theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1) ∗ ((d.tc : Thread nD τ).loc main_arg2 ↦{fullShare} W main_arg2) ∗ ((d.tc : Thread nD τ).loc main_arg3 ↦{fullShare} W main_arg3) ∗ ((d.tc : Thread nD τ).loc main_arg4 ↦{fullShare} W main_arg4) ∗ ((d.tc : Thread nD τ).loc main_arg5 ↦{fullShare} W main_arg5) ∗ ((d.tc : Thread nD τ).loc main_c ↦{fullShare} W main_c) ∗ ((d.tc : Thread nD τ).loc main_call0_v0 ↦{fullShare} W main_call0_v0) ∗ ((d.tc : Thread nD τ).loc main_v0 ↦{fullShare} W main_v0) ∗ ((d.tc : Thread nD τ).loc main_v1 ↦{fullShare} W main_v1) ∗ ((d.tc : Thread nD τ).loc main_v2 ↦{fullShare} W main_v2) ∗ ((d.tc : Thread nD τ).loc main_v3 ↦{fullShare} W main_v3) ∗ ((d.tc : Thread nD τ).loc main_v4 ↦{fullShare} W main_v4) ∗ ((d.tc : Thread nD τ).loc main_v5_0 ↦{fullShare} W main_v5_0) ∗ ((d.tc : Thread nD τ).loc main_v5_1 ↦{fullShare} W main_v5_1) ∗ ((d.tc : Thread nD τ).loc main_v6 ↦{fullShare} W main_v6) ∗ ((d.tc : Thread nD τ).loc main_v7 ↦{fullShare} W main_v7) ∗ ((d.tc : Thread nD τ).loc main_v8 ↦{fullShare} W main_v8)) := by
  unfold unscopedBufs
  rw [show (Finset.univ.filter fun b : Ref sig .tc => ¬ b.isScoped) = {main_arg0, main_arg1, main_arg2, main_arg3, main_arg4, main_arg5, main_c, main_call0_v0, main_v0, main_v1, main_v2, main_v3, main_v4, main_v5_0, main_v5_1, main_v6, main_v7, main_v8} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- What the TensorCore owes, taken out of its state before the call and put back. -/
theorem tcSt_owes (d : Dev nD) : ((K (F := F)).tcSt EH d 0 : sProp 𝕄) ⊢ iprop(tcOwes d ∗ (tcOwes d -∗ (K (F := F)).tcSt EH d 0)) := by
  unfold SparseCore.Cfg.tcSt tcOwes
  iintro ⟨HO, Hr⟩
  isplitl [HO]; · iexact HO
  iintro HO
  isplitl [HO]; · iexact HO
  iexact Hr

/-- The device's arguments as launched, and the result at the normalised sums that the TensorCore kernel may leave. -/
abbrev FIN (d : Dev nD) : sProp 𝕄 :=
  iprop(((d.tc : Thread nD τ).loc main_arg0 ↦{fullShare} m ((d.tc : Thread nD τ).loc main_arg0))
    ∗ ((d.tc : Thread nD τ).loc main_arg1 ↦{fullShare} m ((d.tc : Thread nD τ).loc main_arg1))
    ∗ ((d.tc : Thread nD τ).loc main_arg2 ↦{fullShare} m ((d.tc : Thread nD τ).loc main_arg2))
    ∗ ((d.tc : Thread nD τ).loc main_arg3 ↦{fullShare} m ((d.tc : Thread nD τ).loc main_arg3))
    ∗ ((d.tc : Thread nD τ).loc main_arg4 ↦{fullShare} m ((d.tc : Thread nD τ).loc main_arg4))
    ∗ ((d.tc : Thread nD τ).loc main_arg5 ↦{fullShare} m ((d.tc : Thread nD τ).loc main_arg5))
    ∗ ∃ g : UpC F, ⌜∀ j, ∃ up d7, Good m up d7 ∧ g j = scOut up d7 j⌝ ∗ (oLoc d ↦{fullShare} g))

/-- A buffer that neither the host's lines nor the region write is as launched. -/
theorem V2_launch (d : Dev nD) (up den) (b : Ref sig .tc)
    (h : b ∉ [main_c, main_call0_v0, main_v0, main_v1, main_v2, main_v3, main_v4, main_v5_0, main_v5_1, main_v6, main_v7]) :
    V2 m d up den b = m (d, Proc.devRef .tc b) := by
  simp only [List.mem_cons, List.not_mem_nil, or_false, not_or] at h
  obtain ⟨h1, h2, h3, h4, h5, h6, h7, h8, h9, h10, h11⟩ := h
  rw [V2_ne m d up den b h10 h11, upd_ne _ _ _ b h8 h9, V1_ne m d b (by simp [*])]

/-- The buffers after the host's lines and the region: the arguments, and what the tiles are handed. -/
theorem bufs_tiles (d : Dev nD) (up den) :
    (unscopedBufs d (fun b => V2 m d up den b) : sProp 𝕄) ⊢
      iprop((((d.tc : Thread nD τ).loc main_arg0 ↦{fullShare} m ((d.tc : Thread nD τ).loc main_arg0))
        ∗ ((d.tc : Thread nD τ).loc main_arg1 ↦{fullShare} m ((d.tc : Thread nD τ).loc main_arg1))
        ∗ ((d.tc : Thread nD τ).loc main_arg2 ↦{fullShare} m ((d.tc : Thread nD τ).loc main_arg2))
        ∗ ((d.tc : Thread nD τ).loc main_arg3 ↦{fullShare} m ((d.tc : Thread nD τ).loc main_arg3))
        ∗ ((d.tc : Thread nD τ).loc main_arg4 ↦{fullShare} m ((d.tc : Thread nD τ).loc main_arg4))
        ∗ ((d.tc : Thread nD τ).loc main_arg5 ↦{fullShare} m ((d.tc : Thread nD τ).loc main_arg5)))
        ∗ (uLoc d ↦{fullShare} up) ∗ (eLoc d ↦{fullShare} den0 den) ∗ (oLoc d ↦{fullShare} m (oLoc d))) := by
  rw [unscopedBufs_eq]
  have eu : V2 m d up den main_v5_0 = up := (V2_ne m d up den main_v5_0 (by decide) (by decide)).trans (upd_v5_0 _ _ _)
  have ee : V2 m d up den main_v7 = den0 den := V2_v7 m d up den
  have eo := V2_launch m d up den main_v8 (by decide)
  have e0 := V2_launch m d up den main_arg0 (by decide)
  have e1 := V2_launch m d up den main_arg1 (by decide)
  have e2 := V2_launch m d up den main_arg2 (by decide)
  have e3 := V2_launch m d up den main_arg3 (by decide)
  have e4 := V2_launch m d up den main_arg4 (by decide)
  have e5 := V2_launch m d up den main_arg5 (by decide)
  rw [eu, ee, eo, e0, e1, e2, e3, e4, e5]
  iintro ⟨H0, H1, H2, H3, H4, H5, -, -, -, -, -, -, -, HU, -, -, HE, HO⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [HU]; · iexact HU
  isplitl [HE]; · iexact HE
  iexact HO

theorem reg_pre (V : Dev nD → Valuation τ sig (Elt F)) (d : Dev nD) : (reg V).pre d = iprop(unscopedBufs d (fun b => V d b) ∗ tcOwes d) := rfl
theorem reg_post (V : Dev nD → Valuation τ sig (Elt F)) (d : Dev nD) : (reg V).post d
    = iprop(∃ up den, ⌜GoodU V d up ∧ GoodD V d den⌝ ∗ unscopedBufs d (fun b => upd (V d) up den b) ∗ tcOwes d) := rfl

set_option backward.isDefEq.respectTransparency.types false in
/-- The TensorCore kernel's call, as @main makes it: from every buffer at the valuation to the results replaced. -/
theorem wp_region (d : Dev nD) (Φ : PUnit → sProp 𝕄) :
    iprop((iprop(boundary (d.tc : Thread nD τ) ∗ (reg (V1 m)).post d) -∗ Φ ⟨⟩) ∗ boundary (d.tc : Thread nD τ) ∗ (reg (V1 m)).pre d
        ∗ levAts (K (F := F)).L (K (F := F)).lev ∗ Gh d)
      ⊢ wp frame (wpE ((K (F := F)).defs (D (F := F))) 𝒱 (SparseCore.T d) none) Set.univ
          (Prog.lift (.customCall (SparseCore.inner (Pipeline.entry 0)) ()) : Prog (TpuEff nD τ sig (Elt F) _ .tc) PUnit) Φ := by
  have hl : (Prog.lift (.customCall (SparseCore.inner (Pipeline.entry 0)) ()) : Prog (TpuEff nD τ sig (Elt F) (SparseCore.Sig (ΛP (F := F)) 1) .tc) PUnit)
      = SparseCore.liftProg (.op (.customCall (Pipeline.entry 0) ()) .ret : Prog (TpuEff nD τ sig (Elt F) (ΛP (F := F)) (SparseCore.T (τ := τ) d).2) PUnit) := rfl
  rw [hl]
  have hw := (K (F := F)).wp_liftProg (D (F := F)) 𝒱 (SparseCore.T d) Set.univ none
    (.op (.customCall (Pipeline.entry 0) ()) .ret : Prog (TpuEff nD τ sig (Elt F) (ΛP (F := F)) (SparseCore.T (τ := τ) d).2) PUnit) Φ
  refine BIBase.Entails.trans ?_ hw
  iintro ⟨Hk, Hb, Hpre, Hlev, Hc, Ht⟩
  iapply (RDat.RegionSeg.wp (pcfgs (F := F)) adm (rdats (V1 m)) (none : HIx 1) cells_inj EP defs₀ 𝒱₀ (K (F := F)).L (K (F := F)).lev (reg (V1 m)) d
    none (fun _ h => nomatch h) .ret Φ)
  isplitl [Hk]
  · iintro H
    rw [wp_ret]
    imodintro
    iapply Hk; iexact H
  isplitl [Hb]; · iexact Hb
  isplitl [Hpre]; · iexact Hpre
  isplitl [Hlev]; · iexact Hlev
  isplitl [Hc]; · iexact Hc
  iexact Ht

set_option backward.isDefEq.respectTransparency.types false in
/-- @main on the device's TensorCore. -/
theorem hmain (κ : GSem nD τ sig → ℕ) (d : Dev nD) :
    iprop((K (F := F)).ctx EH (P m (Good m)) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = StableHlo.held (d.tc : Thread nD τ) ucRefs (Vl m d)
    from unscopedBufs_held d (Vl m d)]
  iintro ⟨#Hctx, Hst, ⟨Hb, Hbufs, Hts, -⟩, Hgh⟩
  iapply (StableHlo.wp_seq 𝒱 none Set.univ d ucRefs _ ops1 ops1_sub ops1_fresh (Vl m d)) $$ [Hb Hbufs]
  · isplitl [Hb]; · iexact Hb
    iexact Hbufs
  iintro ⟨Hb, Hbufs⟩
  rw [wp_bind]
  ihave Hst := (tcSt_owes d) $$ Hst
  icases Hst with ⟨HO, Hst⟩
  ihave Hlev := (SparseCore.Cfg.ctx_levAts κ) $$ Hctx
  iapply (wp_region m d)
  rw [reg_pre, reg_post]
  isplitr [Hb Hbufs HO Hlev Hgh]
  swap
  · isplitl [Hb]; · iexact Hb
    isplitl [Hbufs HO]
    · isplitl [Hbufs]
      · rw [show (unscopedBufs d (fun b => V1 m d b) : sProp 𝕄) = StableHlo.held (d.tc : Thread nD τ) ucRefs (StableHlo.after ops1 (Vl m d))
          from unscopedBufs_held d (V1 m d)]
        iexact Hbufs
      iexact HO
    isplitl [Hlev]; · iexact Hlev
    iexact Hgh
  iintro ⟨Hb, %up, %den, %hg, Hbufs, HO⟩
  ihave Hbufs := (Entails.of_eq (unscopedBufs_held d (upd (V1 m d) up den))) $$ Hbufs
  ispecialize Hst $$ HO
  iapply (StableHlo.wp_seq 𝒱 none Set.univ d ucRefs _ ops2 ops2_sub ops2_fresh (upd (V1 m d) up den)) $$ [Hb Hbufs]
  · isplitl [Hb]; · iexact Hb
    iexact Hbufs
  iintro ⟨Hb, Hbufs⟩
  ihave Hbufs := (show (StableHlo.held (d.tc : Thread nD τ) ucRefs (StableHlo.after ops2 (upd (V1 m d) up den)) : sProp 𝕄) ⊢ _
    from (Entails.of_eq (unscopedBufs_held d (V2 m d up den)).symm).trans (bufs_tiles m d up den)) $$ Hbufs
  icases Hbufs with ⟨Hargs, Hu, He, Ho⟩
  have hd : d = 0 := Subsingleton.elim _ _
  have hG : Good m up (den0 den) := ⟨den, hd ▸ hg.1, hd ▸ hg.2, rfl⟩
  iapply ((K (F := F)).wp_run (D (F := F)) 𝒱 (EH := EH) (P := P m (Good m)) κ d 0) $$ [Hst Hargs Hu He Ho Hb Hts]
  isplitr; · iexact Hctx
  isplitl [Hst]; · iexact Hst
  isplitl [Hu He Ho]
  · iapply (st_intro m (Good m) d up (den0 den) hG)
    isplitl [Hu]; · iexact Hu
    isplitl [He]; · iexact He
    iexact Ho
  iintro ⟨Hst, Hdn⟩
  ihave Hdn := (dn_elim m (Good m) d ⟨_, _, hG⟩) $$ Hdn
  icases Hargs with ⟨H0, H1, H2, H3, H4, H5⟩
  isplitl [Hst]; · iexact Hst
  isplitr [Hb Hts]
  · isplitl [H0]; · iexact H0
    isplitl [H1]; · iexact H1
    isplitl [H2]; · iexact H2
    isplitl [H3]; · iexact H3
    isplitl [H4]; · iexact H4
    isplitl [H5]; · iexact H5
    iexact Hdn
  isplitl [Hb] <;> iassumption

/-- What the run leaves on a device: the arguments as launched, the result at the normalised sums. -/
def fq (d : Dev nD) (s' : Phys nD τ sig (Elt F)) : Prop :=
  (s'.mem.mem ((d.tc : Thread nD τ).loc main_arg0) = m ((d.tc : Thread nD τ).loc main_arg0)
    ∧ s'.mem.mem ((d.tc : Thread nD τ).loc main_arg1) = m ((d.tc : Thread nD τ).loc main_arg1)
    ∧ s'.mem.mem ((d.tc : Thread nD τ).loc main_arg2) = m ((d.tc : Thread nD τ).loc main_arg2)
    ∧ s'.mem.mem ((d.tc : Thread nD τ).loc main_arg3) = m ((d.tc : Thread nD τ).loc main_arg3)
    ∧ s'.mem.mem ((d.tc : Thread nD τ).loc main_arg4) = m ((d.tc : Thread nD τ).loc main_arg4)
    ∧ s'.mem.mem ((d.tc : Thread nD τ).loc main_arg5) = m ((d.tc : Thread nD τ).loc main_arg5))
  ∧ ∀ j, ∃ up d7, Good m up d7 ∧ s'.mem.mem (oLoc d) j = scOut up d7 j

/-- A buffer held whole at `f` holds `f`. -/
theorem read_whole (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨H, HSI⟩
  ihave H := (persistent_entails_right (SI_pointsTo_agree (st := s') (ℓ := ℓ) (I := Finset.univ) (q := fullShare) (f := f))) $$ [HSI H]
  · isplitl [HSI] <;> iassumption
  icases H with ⟨%h, HSI, -⟩
  isplitr; · ipureintro; exact funext fun i => h i (Finset.mem_univ i)
  iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H3, H4, H5, %g, %hg, Hg⟩, HSI⟩
  ihave H := (read_whole s' _ _) $$ [H0 HSI]
  · isplitl [H0] <;> iassumption
  icases H with ⟨%h0, HSI⟩
  ihave H := (read_whole s' _ _) $$ [H1 HSI]
  · isplitl [H1] <;> iassumption
  icases H with ⟨%h1, HSI⟩
  ihave H := (read_whole s' _ _) $$ [H2 HSI]
  · isplitl [H2] <;> iassumption
  icases H with ⟨%h2, HSI⟩
  ihave H := (read_whole s' _ _) $$ [H3 HSI]
  · isplitl [H3] <;> iassumption
  icases H with ⟨%h3, HSI⟩
  ihave H := (read_whole s' _ _) $$ [H4 HSI]
  · isplitl [H4] <;> iassumption
  icases H with ⟨%h4, HSI⟩
  ihave H := (read_whole s' _ _) $$ [H5 HSI]
  · isplitl [H5] <;> iassumption
  icases H with ⟨%h5, HSI⟩
  ihave H := (read_whole s' (oLoc d) g) $$ [Hg HSI]
  · isplitl [Hg] <;> iassumption
  icases H with ⟨%h6, HSI⟩
  ipureintro
  refine ⟨⟨h0, h1, h2, h3, h4, h5⟩, fun j => ?_⟩
  rw [h6]; exact hg j

/-! ## The program's run -/

/-- What the run ends with: on every device what `fq` says, every semaphore at zero. -/
def QC : PUnit × MemSt nD τ sig (Elt F) → Prop := fun r =>
  (∀ c : Dev nD, (r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5))
    ∧ ∀ j, ∃ up d7, Good m up d7 ∧ r.2.mem (oLoc c) j = scOut up d7 j) ∧ r.2.sem = fun _ => 0

/-- The program runs to the end without fault, from any memory, and ends so. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (Good m)) (A := ∅) facts v₀
    (fun q hq => match q with | 0 => nomatch hq)
    (fun q _ => match q with | 0 => tileObl m (Good m) facts)
    (fun q _ => match q with | 0 => SparseCore.Cfg.VecSplit.of_plain (vecSplit m (Good m)))
    m ρ main (fun d => Gh d) (FIN m) (u₀ (F := F)) (sep_elim_left.trans (hu₀ m (Good m))) (hmain m ρ) (fq m) (hfin m) (QC m) (fun _ h hz => ⟨h, hz⟩)

/-- The frame: from any memory the program ends without fault, its arguments unchanged and every semaphore at zero. -/
theorem frame : Cert.quiescent_KernelIdeal := fun m ρ _ =>
  (θ_run Cert.KernelIdeal.defs _ _).mono (fun _ h => ⟨fun c => (h.1 c).1, h.2⟩) (run_main m ρ)

end Cert.Proof.KI

end
-- ==== Proof.Blocks.lean ====
/-
  What the TensorCore kernel's input blocks hold: point `t`'s block of `x` and of the padded segment numbers, row by
  row, and the four weight arrays whole.
-/
module

public import proofs.«01_k».proof.Proof.RunI
public import Idealize.ShloMosaic.Lib.Pointwise
public import Idealize.ShloMosaic.PureOps.Ideal.Laws

@[expose] public section

noncomputable section

namespace Cert.Proof.Blocks

open Idealize.ShloMosaic Cert.KernelIdeal Cert.KernelIdeal.Gen Cert.Proof.KI
open Idealize.ShloMosaic.TcCoe

variable {F : FTy → Type} [FloatOps F]
variable (V : Dev nD → Valuation τ sig (Elt F)) (c : Dev nD)

/-- The grid's one coordinate is the point's number. -/
theorem coords_val (t : Fin cfg0.N) : (grid0.coords t 0).val = t.val := by
  rcases fin_N0 t with rfl | rfl | rfl | rfl <;> rfl

/-- Inside the array a block holds the array's contents. -/
theorem isBlk_at (w : Fin cfg0.W) (t : Fin cfg0.N) (X : (cfg0.win w).block.Idx → Elt F (cfg0.win w).elt) (h : IsBlk V c w t X)
    (j : (cfg0.win w).block.Idx) (hj : ∀ a, (j a).val < (cfg0.win w).xsize (cfg0.grid.coords t) a) :
    X j = ((cfg0.win w).blk t).view.read (Elt F) (V c (Pipeline.arrRef spec0 w)) fun a => ⟨(j a).val, hj a⟩ := by
  obtain ⟨d, rfl⟩ := h
  exact (cfg0.win w).fill_xinj (cfg0.grid.coords t) d _ (fun a => ⟨(j a).val, hj a⟩)

/-- A block of 12544 rows that ends inside the array is not cut; -/
theorem ext_full (i : ℕ) (h : (i + 1) * 12544 ≤ 50000) : (Pipeline.Clip.of i 12544 50000).extent 12544 = 12544 := by
  unfold Pipeline.Clip.of; rw [if_pos h]
/-- the fourth is, to 12368 rows. -/
theorem ext_cut : (Pipeline.Clip.of 3 12544 50000).extent 12544 = 12368 := by
  unfold Pipeline.Clip.of; rw [if_neg (by omega)]

/-- A block of `x` has 12544 rows in the array, but for the last, which has 12368; -/
theorem xsize0 (t : Fin cfg0.N) : win0_0.xsize (grid0.coords t) 0 = if t = t0_3 then 12368 else 12544 := by
  have e : win0_0.xsize (grid0.coords t) 0 = (Pipeline.Clip.of (cc0_transform_0 (grid0.coords t) 0) 12544 50000).extent 12544 := rfl
  have e0 : cc0_transform_0 (grid0.coords t) 0 = t.val := by rcases fin_N0 t with rfl | rfl | rfl | rfl <;> rfl
  rw [e, e0]
  rcases fin_N0 t with rfl | rfl | rfl | rfl
  · rw [if_neg (by decide)]; exact ext_full 0 (by omega)
  · rw [if_neg (by decide)]; exact ext_full 1 (by omega)
  · rw [if_neg (by decide)]; exact ext_full 2 (by omega)
  · rw [if_pos rfl]; exact ext_cut
/-- and all 256 columns. -/
theorem xsize1 (t : Fin cfg0.N) : win0_0.xsize (grid0.coords t) 1 = 256 := by
  rcases fin_N0 t with rfl | rfl | rfl | rfl <;> rfl

/-- Point `t`'s block of `x`, on a row inside the array. -/
theorem x_at (t : Fin cfg0.N) (X : Vec F S12544x256 .f32) (h : IsBlk V c 0 t X) (r : Fin 12544) (k : Fin 256) (hr : 12544 * t.val + r.val < 50000) :
    X (ix2 r k) = V c main_arg0 (ix2 ⟨12544 * t.val + r.val, hr⟩ k) := by
  have hj : ∀ a, ((ix2 r k : S12544x256.Idx) a).val < win0_0.xsize (grid0.coords t) a := by
    intro a
    fin_cases a
    · show r.val < win0_0.xsize (grid0.coords t) 0
      rw [xsize0]; split
      · rename_i h3; rw [h3] at hr; have : 12544 * 3 + r.val < 50000 := hr; omega
      · exact r.isLt
    · show k.val < win0_0.xsize (grid0.coords t) 1
      rw [xsize1]; exact k.isLt
  rw [isBlk_at V c 0 t X h (ix2 r k) hj]
  show V c main_arg0 ((win0_0.blk t).view.emb _) = _
  congr 1
  funext a; apply Fin.ext
  rcases fin_N0 t with rfl | rfl | rfl | rfl <;> fin_cases a
  · show 0 * 12544 + 1 * r.val = 12544 * 0 + r.val; omega
  · show 0 * 256 + 1 * k.val = k.val; omega
  · show 1 * 12544 + 1 * r.val = 12544 * 1 + r.val; omega
  · show 0 * 256 + 1 * k.val = k.val; omega
  · show 2 * 12544 + 1 * r.val = 12544 * 2 + r.val; omega
  · show 0 * 256 + 1 * k.val = k.val; omega
  · show 3 * 12544 + 1 * r.val = 12544 * 3 + r.val; omega
  · show 0 * 256 + 1 * k.val = k.val; omega

/-- Point `t`'s block of the segment numbers. -/
theorem b_at (t : Fin cfg0.N) (X : IVec S1x1x12544 32) (h : IsBlk V c 1 t X) (r : Fin 12544) :
    X (ix3 0 0 r) = V c main_v1 (ix3 t 0 r) := by
  have hj : ∀ a, ((ix3 0 0 r : S1x1x12544.Idx) a).val < win0_1.xsize (grid0.coords t) a := fun a => ((ix3 0 0 r : S1x1x12544.Idx) a).isLt
  rw [isBlk_at V c 1 t X h (ix3 0 0 r) hj]
  show V c main_v1 ((win0_1.blk t).view.emb _) = _
  congr 1
  funext a; apply Fin.ext
  rcases fin_N0 t with rfl | rfl | rfl | rfl <;> fin_cases a
  all_goals first
    | (show 0 * 12544 + 1 * r.val = r.val; omega)
    | rfl

/-- The first weights' block is the whole array. -/
theorem W1_eq (X : Vec F S256x256 .f32) (h : IsBlk V c 2 t0_0 X) : X = V c main_arg2 := by
  funext j
  have hj : ∀ a, (j a).val < win0_2.xsize (grid0.coords t0_0) a := fun a => (j a).isLt
  rw [isBlk_at V c 2 t0_0 X h j hj]
  show V c main_arg2 ((win0_2.blk t0_0).view.emb _) = _
  congr 1
  funext a; apply Fin.ext
  fin_cases a
  · show 0 * 256 + 1 * (j 0).val = (j 0).val; omega
  · show 0 * 256 + 1 * (j 1).val = (j 1).val; omega

/-- The first offsets' block is the whole array. -/
theorem b1_eq (X : Vec F S1x256 .f32) (h : IsBlk V c 3 t0_0 X) : X = V c main_v2 := by
  funext j
  have hj : ∀ a, (j a).val < win0_3.xsize (grid0.coords t0_0) a := fun a => (j a).isLt
  rw [isBlk_at V c 3 t0_0 X h j hj]
  show V c main_v2 ((win0_3.blk t0_0).view.emb _) = _
  congr 1
  funext a; apply Fin.ext
  fin_cases a
  · show 0 * 1 + 1 * (j 0).val = (j 0).val; omega
  · show 0 * 256 + 1 * (j 1).val = (j 1).val; omega

/-- The second weights' block is the whole array. -/
theorem W2_eq (X : Vec F S1x256 .f32) (h : IsBlk V c 4 t0_0 X) : X = V c main_v3 := by
  funext j
  have hj : ∀ a, (j a).val < win0_4.xsize (grid0.coords t0_0) a := fun a => (j a).isLt
  rw [isBlk_at V c 4 t0_0 X h j hj]
  show V c main_v3 ((win0_4.blk t0_0).view.emb _) = _
  congr 1
  funext a; apply Fin.ext
  fin_cases a
  · show 0 * 1 + 1 * (j 0).val = (j 0).val; omega
  · show 0 * 256 + 1 * (j 1).val = (j 1).val; omega

/-- The second offset's block is the whole array. -/
theorem b2_eq (X : Vec F S1x1 .f32) (h : IsBlk V c 5 t0_0 X) : X = V c main_v4 := by
  funext j
  have hj : ∀ a, (j a).val < win0_5.xsize (grid0.coords t0_0) a := fun a => (j a).isLt
  rw [isBlk_at V c 5 t0_0 X h j hj]
  show V c main_v4 ((win0_5.blk t0_0).view.emb _) = _
  congr 1
  funext a; apply Fin.ext
  fin_cases a
  · show 0 * 1 + 1 * (j 0).val = (j 0).val; omega
  · show 0 * 1 + 1 * (j 1).val = (j 1).val; omega

/-! ## What the host's operations leave in the arrays the kernel is entered with -/

variable (m : (ℓ : Loc nD τ sig) → Buf (Elt F) ℓ)

/-- `x` is as launched. -/
theorem V1_arg0 : V1 m c main_arg0 = m ((c.tc : Thread nD τ).loc main_arg0) := V1_ne m c main_arg0 (by decide)
/-- The first weights are as launched. -/
theorem V1_arg2 : V1 m c main_arg2 = m ((c.tc : Thread nD τ).loc main_arg2) := V1_ne m c main_arg2 (by decide)

/-- The first offsets as one row. -/
theorem V1_v2 : V1 m c main_v2 = shapeCast S1x256 (m ((c.tc : Thread nD τ).loc main_arg3)) shapeCasts_S256_S1x256 := by
  unfold V1; simp only [ops1, StableHlo.after_cons, StableHlo.after_nil]; rfl
/-- The second weights as one row. -/
theorem V1_v3 : V1 m c main_v3 = shapeCast S1x256 (m ((c.tc : Thread nD τ).loc main_arg4)) shapeCasts_S256x1_S1x256 := by
  unfold V1; simp only [ops1, StableHlo.after_cons, StableHlo.after_nil]; rfl
/-- The second offset as a matrix. -/
theorem V1_v4 : V1 m c main_v4 = shapeCast S1x1 (m ((c.tc : Thread nD τ).loc main_arg5)) shapeCasts_S1_S1x1 := by
  unfold V1; simp only [ops1, StableHlo.after_cons, StableHlo.after_nil]; rfl
/-- The segment numbers, padded with zeros and cut in four. -/
theorem V1_v1 : V1 m c main_v1
    = shapeCast S4x1x12544 (pad S50176 ![0] ![176] ![0] (m ((c.tc : Thread nD τ).loc main_arg1)) (constantI S_ 32 0#32) pads_S50000_S50176_01760 h_S_)
        shapeCasts_S50176_S4x1x12544 := by
  unfold V1; simp only [ops1, StableHlo.after_cons, StableHlo.after_nil]; rfl

/-- Row `r` of point `t`'s segment numbers, inside the array. -/
theorem V1_v1_at (t : Fin 4) (r : Fin 12544) (hr : 12544 * t.val + r.val < 50000) :
    V1 m c main_v1 (ix3 t 0 r) = m ((c.tc : Thread nD τ).loc main_arg1) (ix1 ⟨12544 * t.val + r.val, hr⟩) := by
  rw [V1_v1]
  pointwise
  rw [dif_pos]
  · congr 2; apply Fin.ext; show t.val * 12544 + r.val = 12544 * t.val + r.val; omega
  · intro a; fin_cases a
    show t.val * 12544 + r.val < 50000; omega

end Cert.Proof.Blocks

end
-- ==== Proof.Spec.lean ====
/-
  The mathematics both programs compute: scores, their exponentials, the segments' weighted sums and denominators, and
  the quotient with its guard.
-/
module

public import Idealize.ShloMosaic.Lib.Pointwise
public import Idealize.ShloMosaic.Lib.IdealHost

@[expose] public section

noncomputable section

namespace Cert.Proof.Spec

open Idealize.ShloMosaic

/-- The score of one row `xr` of `x`: its tanh layer's product with the second layer's weights, plus the bias. -/
def score (w1 : Fin 256 → Fin 256 → EReal) (b1 w2 : Fin 256 → EReal) (b2 : EReal) (xr : Fin 256 → EReal) : EReal :=
  (∑ k : Fin 256, Ideal.tanh ((∑ j : Fin 256, xr j * w1 j k) + b1 k) * w2 k) + b2

/-- The sum of `f` over the rows that `b` puts in segment `g`. -/
def segSum (b : Fin 50000 → BitVec 32) (f : Fin 50000 → EReal) (g : Fin 64) : EReal :=
  ∑ i : Fin 50000, if b i = BitVec.ofNat 32 g.val then f i else 0

/-- The guard added to a denominator: the f32 nearest to 1e-16. -/
def eps : EReal := Ideal.ofBits .f32 0x24E69595#32

/-- The pooled value of segment `g` in column `k`: the weighted sum times one over the guarded denominator. -/
def pooled (b : Fin 50000 → BitVec 32) (e : Fin 50000 → EReal) (x : Fin 50000 → Fin 256 → EReal) (g : Fin 64) (k : Fin 256) : EReal :=
  segSum b (fun i => e i * x i k) g * Ideal.div 1 (segSum b e g + eps)

/-- A function of the rows, continued by zero past the last. -/
def ext (f : Fin 50000 → EReal) (n : ℕ) : EReal := if h : n < 50000 then f ⟨n, h⟩ else 0

/-- The sums over the four blocks of 12544 rows, added in order from zero, are the sum over the rows. -/
theorem sum_blocks (f : Fin 50000 → EReal) :
    (((0 + ∑ r : Fin 12544, ext f (12544 * 0 + r.val)) + ∑ r : Fin 12544, ext f (12544 * 1 + r.val))
        + ∑ r : Fin 12544, ext f (12544 * 2 + r.val)) + ∑ r : Fin 12544, ext f (12544 * 3 + r.val)
      = ∑ i : Fin 50000, f i := by
  have hb : ∀ o : ℕ, ∑ r : Fin 12544, ext f (o + r.val) = ∑ r ∈ Finset.range 12544, ext f (o + r) := fun o =>
    (Finset.sum_range fun r => ext f (o + r)).symm
  have hs : ∀ a : ℕ, ∑ n ∈ Finset.range (a + 12544), ext f n = ∑ n ∈ Finset.range a, ext f n + ∑ r : Fin 12544, ext f (a + r.val) := by
    intro a; rw [hb, Finset.sum_range_add]
  have h0 : ∑ n ∈ Finset.range 0, ext f n = 0 := Finset.sum_range_zero _
  have h1 := hs (12544 * 0)
  have h2 := hs (12544 * 1)
  have h3 := hs (12544 * 2)
  have h4 := hs (12544 * 3)
  have ht : ∑ n ∈ Finset.range (12544 * 3 + 12544), ext f n = ∑ i : Fin 50000, f i := by
    rw [show 12544 * 3 + 12544 = 50000 + 176 from rfl, Finset.sum_range_add]
    rw [Finset.sum_eq_zero (s := Finset.range 176) (fun r _ => by unfold ext; rw [dif_neg (by omega)]), add_zero, Finset.sum_range]
    exact Finset.sum_congr rfl fun i _ => by unfold ext; rw [dif_pos i.isLt]
  rw [← ht, h4, show 12544 * 3 = 12544 * 2 + 12544 from rfl, h3, show 12544 * 2 = 12544 * 1 + 12544 from rfl, h2,
    show 12544 * 1 = 12544 * 0 + 12544 from rfl, h1, show 12544 * 0 = 0 from rfl, h0]

end Cert.Proof.Spec

end
-- ==== Proof.Pays.lean ====
module

public import proofs.«01_k».proof.Proof.Gen.KernelIdeal.Skeleton
public import proofs.«01_k».proof.Proof.Spec

@[expose] public section

noncomputable section

namespace Cert.Proof.Pays

open Idealize.ShloMosaic Cert.KernelIdeal Cert.KernelIdeal.Gen Cert.Proof.Spec

/-- A selection on an integer equality is the conditional. -/
theorem select_eq {α : Type} (x y : BitVec 32) (a b : α) : Scalar.select (IntOp.cmpi .eq x y) a b = if x = y then a else b := by
  by_cases h : x = y
  · simp [Scalar.select, IntOp.cmpi, h]
  · have h' : (x == y) = false := beq_eq_false_iff_ne.2 h
    simp [Scalar.select, IntOp.cmpi, h, h']

/-- A selection on a signed comparison of words is the conditional on their integers. -/
theorem select_slt {α : Type} (x y : BitVec 32) (a b : α) : Scalar.select (IntOp.cmpi .slt x y) a b = if x.toInt < y.toInt then a else b := by
  by_cases h : x.toInt < y.toInt <;> simp [Scalar.select, IntOp.cmpi, BitVec.slt, h]

section
variable (x : FVec Ideal S12544x256 .f32) (W1 : FVec Ideal S256x256 .f32) (b1 W2 : FVec Ideal S1x256 .f32) (b2 : FVec Ideal S1x1 .f32) (b : IVec S1x1x12544 32)

/-- The kernel's exponential of a row of its block. -/
theorem pay1_at (r : Fin 12544) :
    k0_pay1 (F := Ideal) x W1 b1 W2 b2 (ix1 r)
      = Ideal.exp (score (fun j k => W1 (ix2 j k)) (fun k => b1 (ix2 0 k)) (fun k => W2 (ix2 0 k)) (b2 (ix2 0 0)) fun j => x (ix2 r j)) := by
  unfold score
  pointwise [k0_pay1]

/-- The masked exponentials of a block inside the array. -/
theorem pay5_at (g : Fin 64) (r : Fin 12544) :
    k0_pay5 (F := Ideal) x W1 b1 W2 b2 b (ix2 g r)
      = if b (ix3 0 0 r) = BitVec.ofNat 32 g.val then k0_pay1 (F := Ideal) x W1 b1 W2 b2 (ix1 r) else 0 := by
  pointwise [k0_pay5, k0_pay2]
  all_goals exact select_eq _ _ _ _

/-- One block's contribution to the weighted sums. -/
theorem pay6_at (u : FVec Ideal S64x256 .f32) (g : Fin 64) (k : Fin 256) :
    k0_pay6 (F := Ideal) x W1 b1 W2 b2 b u (ix2 g k)
      = u (ix2 g k) + ∑ r : Fin 12544, if b (ix3 0 0 r) = BitVec.ofNat 32 g.val then k0_pay1 (F := Ideal) x W1 b1 W2 b2 (ix1 r) * x (ix2 r k) else 0 := by
  pointwise [k0_pay6]
  refine congrArg _ (Finset.sum_congr rfl fun r _ => ?_)
  rw [pay5_at, ite_mul, zero_mul]

/-- One block's contribution to the denominators. -/
theorem pay7_at (u : FVec Ideal S64x128 .f32) (g : Fin 64) (k : Fin 128) :
    k0_pay7 (F := Ideal) x W1 b1 W2 b2 b u (ix2 g k)
      = u (ix2 g k) + ∑ r : Fin 12544, if b (ix3 0 0 r) = BitVec.ofNat 32 g.val then k0_pay1 (F := Ideal) x W1 b1 W2 b2 (ix1 r) else 0 := by
  pointwise [k0_pay7]
  exact congrArg _ (Finset.sum_congr rfl fun r _ => pay5_at x W1 b1 W2 b2 b g r)

/-- The last block's row numbers, as integers. -/
theorem pay8_at (i : grid0.Coords) (hi : (i 0).val = 3) (r : Fin 12544) :
    (k0_pay8 i (ix1 r)).toInt = (r.val : Int) + 37632 := by
  have h : k0_pay8 i (ix1 r) = BitVec.ofNat 32 (r.val + 37632) := by
    pointwise [k0_pay8]
    rw [hi]
    show BitVec.ofNat 32 r.val + 37632#32 = _
    rw [BitVec.ofNat_add]
  have hr := r.isLt
  rw [h, BitVec.toInt_eq_toNat_of_lt (by rw [BitVec.toNat_ofNat]; omega), BitVec.toNat_ofNat]
  omega

/-- The last block's row mask. -/
theorem mask_at (i : grid0.Coords) (hi : (i 0).val = 3) (r : Fin 12544) {α : Type} (a b : α) :
    Scalar.select (IntOp.cmpi .slt (k0_pay8 i (ix1 r)) 50000#32) a b = if r.val + 37632 < 50000 then a else b := by
  rw [select_slt, pay8_at i hi]
  have e : (50000#32 : BitVec 32).toInt = 50000 := by decide
  rw [e]
  have : ((r.val : Int) + 37632 < 50000) ↔ r.val + 37632 < 50000 := by omega
  simp only [this]

/-- The masked exponentials of the last block: rows past the array's end count nothing. -/
theorem pay9_at (i : grid0.Coords) (hi : (i 0).val = 3) (g : Fin 64) (r : Fin 12544) :
    k0_pay9 (F := Ideal) i x W1 b1 W2 b2 b (ix2 g r)
      = if b (ix3 0 0 r) = BitVec.ofNat 32 g.val then
          if r.val + 37632 < 50000 then k0_pay1 (F := Ideal) x W1 b1 W2 b2 (ix1 r) else 0 else 0 := by
  pointwise [k0_pay9, k0_pay2]
  rw [mask_at i hi, select_eq]

/-- The last block's contribution to the weighted sums. -/
theorem pay10_at (i : grid0.Coords) (hi : (i 0).val = 3) (u : FVec Ideal S64x256 .f32) (g : Fin 64) (k : Fin 256) :
    k0_pay10 (F := Ideal) i x W1 b1 W2 b2 b u (ix2 g k)
      = u (ix2 g k) + ∑ r : Fin 12544, if r.val + 37632 < 50000 then
          if b (ix3 0 0 r) = BitVec.ofNat 32 g.val then k0_pay1 (F := Ideal) x W1 b1 W2 b2 (ix1 r) * x (ix2 r k) else 0 else 0 := by
  pointwise [k0_pay10]
  refine congrArg _ (Finset.sum_congr rfl fun r _ => ?_)
  rw [mask_at i hi, pay9_at x W1 b1 W2 b2 b i hi]
  by_cases h : r.val + 37632 < 50000
  · rw [if_pos h, if_pos h, if_pos h, ite_mul, zero_mul]
  · rw [if_neg h, if_neg h]

/-- The last block's contribution to the denominators. -/
theorem pay11_at (i : grid0.Coords) (hi : (i 0).val = 3) (u : FVec Ideal S64x128 .f32) (g : Fin 64) (k : Fin 128) :
    k0_pay11 (F := Ideal) i x W1 b1 W2 b2 b u (ix2 g k)
      = u (ix2 g k) + ∑ r : Fin 12544, if r.val + 37632 < 50000 then
          if b (ix3 0 0 r) = BitVec.ofNat 32 g.val then k0_pay1 (F := Ideal) x W1 b1 W2 b2 (ix1 r) else 0 else 0 := by
  pointwise [k0_pay11]
  refine congrArg _ (Finset.sum_congr rfl fun r _ => ?_)
  rw [pay9_at x W1 b1 W2 b2 b i hi]
  by_cases h : r.val + 37632 < 50000
  · rw [if_pos h, if_pos h]
  · rw [if_neg h, if_neg h, ite_self]

/-- The zeros that the first point stores. -/
theorem pay3_at (j : S64x256.Idx) : k0_pay3 (F := Ideal) j = 0 := by pointwise [k0_pay3]

/-- The zeros that the first point stores. -/
theorem pay4_at (j : S64x128.Idx) : k0_pay4 (F := Ideal) j = 0 := by pointwise [k0_pay4]

end

end Cert.Proof.Pays

end
-- ==== Proof.KValue.lean ====
/-
  The value of the kernel: the sums and denominators after the four blocks are the segments' sums over all rows, so the
  result is the pooled value of every segment and column.
-/
module

public import proofs.«01_k».proof.Proof.Blocks
public import proofs.«01_k».proof.Proof.Pays

@[expose] public section

noncomputable section

namespace Cert.Proof.KValue

open Idealize.ShloMosaic Cert.KernelIdeal Cert.KernelIdeal.Gen Cert.Proof.KI Cert.Proof.Spec Cert.Proof.Pays Cert.Proof.Blocks
open Idealize.ShloMosaic.TcCoe

variable (m : (ℓ : Loc nD τ sig) → Buf (Elt Ideal) ℓ) (c : Dev nD)

/-- `x` by row and column. -/
def xs (i : Fin 50000) (k : Fin 256) : EReal := m ((c.tc : Thread nD τ).loc main_arg0) (ix2 i k)
/-- The segment number of a row. -/
def bs (i : Fin 50000) : BitVec 32 := m ((c.tc : Thread nD τ).loc main_arg1) (ix1 i)
/-- The score of a row of any values. -/
def sc (xr : Fin 256 → EReal) : EReal :=
  score (fun j k => m ((c.tc : Thread nD τ).loc main_arg2) (ix2 j k)) (fun k => m ((c.tc : Thread nD τ).loc main_arg3) (ix1 k))
    (fun k => m ((c.tc : Thread nD τ).loc main_arg4) (ix2 k 0)) (m ((c.tc : Thread nD τ).loc main_arg5) (ix1 0)) xr
/-- The exponential of a row's score. -/
def es (i : Fin 50000) : EReal := Ideal.exp (sc m c (xs m c i))

/-- The kernel's exponential of a block's row in the array is that row's. -/
theorem pay1_eq (t : Fin cfg0.N) (x : Vec Ideal S12544x256 .f32) (W1 : Vec Ideal S256x256 .f32) (b1 W2 : Vec Ideal S1x256 .f32) (b2 : Vec Ideal S1x1 .f32)
    (hx : IsBlk (V1 m) c 0 t x) (hW1 : IsBlk (V1 m) c 2 t0_0 W1) (hb1 : IsBlk (V1 m) c 3 t0_0 b1) (hW2 : IsBlk (V1 m) c 4 t0_0 W2)
    (hb2 : IsBlk (V1 m) c 5 t0_0 b2) (r : Fin 12544) (hr : 12544 * t.val + r.val < 50000) :
    k0_pay1 (F := Ideal) x W1 b1 W2 b2 (ix1 r) = es m c ⟨12544 * t.val + r.val, hr⟩ := by
  rw [pay1_at]
  obtain rfl := W1_eq (V1 m) c W1 hW1
  obtain rfl := b1_eq (V1 m) c b1 hb1
  obtain rfl := W2_eq (V1 m) c W2 hW2
  obtain rfl := b2_eq (V1 m) c b2 hb2
  unfold es sc xs
  have e1 : (fun j => x (ix2 r j)) = fun j => m ((c.tc : Thread nD τ).loc main_arg0) (ix2 ⟨12544 * t.val + r.val, hr⟩ j) :=
    funext fun j => by rw [x_at (V1 m) c t x hx r j hr, V1_arg0]
  have e2 : (fun k : Fin 256 => V1 m c main_v2 (ix2 0 k)) = fun k => m ((c.tc : Thread nD τ).loc main_arg3) (ix1 k) :=
    funext fun k => by rw [V1_v2]; pointwise
  have e3 : (fun k : Fin 256 => V1 m c main_v3 (ix2 0 k)) = fun k => m ((c.tc : Thread nD τ).loc main_arg4) (ix2 k 0) :=
    funext fun k => by rw [V1_v3]; pointwise
  have e4 : V1 m c main_v4 (ix2 0 0) = m ((c.tc : Thread nD τ).loc main_arg5) (ix1 0) := by
    rw [V1_v4]; pointwise
  rw [e1, e2, e3, e4, V1_arg2]

/-- A block's segment number in the array is that row's. -/
theorem b_eq (t : Fin cfg0.N) (b : IVec S1x1x12544 32) (hb : IsBlk (V1 m) c 1 t b) (r : Fin 12544) (hr : 12544 * t.val + r.val < 50000) :
    b (ix3 0 0 r) = bs m c ⟨12544 * t.val + r.val, hr⟩ := by
  rw [b_at (V1 m) c t b hb r]
  exact V1_v1_at c m t r hr

/-- What a row adds to a segment's sum in column `k`. -/
def tU (g : Fin 64) (k : Fin 256) (i : Fin 50000) : EReal := if bs m c i = BitVec.ofNat 32 g.val then es m c i * xs m c i k else 0
/-- What a row adds to a segment's denominator. -/
def tD (g : Fin 64) (i : Fin 50000) : EReal := if bs m c i = BitVec.ofNat 32 g.val then es m c i else 0

/-- The point's conditions: it is the first; it is the last. -/
theorem cond1_iff (t : Fin cfg0.N) : k0_cond1 (grid0.coords t) = 1#1 ↔ t = t0_0 := by
  rcases fin_N0 t with rfl | rfl | rfl | rfl <;> decide
theorem cond3_iff (t : Fin cfg0.N) : k0_cond3 (grid0.coords t) = 1#1 ↔ t = t0_3 := by
  rcases fin_N0 t with rfl | rfl | rfl | rfl <;> decide
/-- A point that is not the last has its rows in the array. -/
theorem rows_lt (t : Fin cfg0.N) (h : t ≠ t0_3) (r : Fin 12544) : 12544 * t.val + r.val < 50000 := by
  have := r.isLt
  rcases fin_N0 t with rfl | rfl | rfl | rfl
  · show 12544 * 0 + r.val < 50000; omega
  · show 12544 * 1 + r.val < 50000; omega
  · show 12544 * 2 + r.val < 50000; omega
  · exact absurd rfl h

/-- One point's step of the sums. -/
theorem RU_at (t : Fin cfg0.N) (Y X : Vec Ideal S64x256 .f32) (h : RU (V1 m) c t Y X) (g : Fin 64) (k : Fin 256) :
    X (ix2 g k) = (if t = t0_0 then 0 else Y (ix2 g k)) + ∑ r : Fin 12544, ext (tU m c g k) (12544 * t.val + r.val) := by
  obtain ⟨x, b, W1, b1, W2, b2, hx, hb, hW1, hb1, hW2, hb2, rfl⟩ := h
  have key : ∀ (r : Fin 12544) (hr : 12544 * t.val + r.val < 50000),
      (if b (ix3 0 0 r) = BitVec.ofNat 32 g.val then k0_pay1 (F := Ideal) x W1 b1 W2 b2 (ix1 r) * x (ix2 r k) else 0)
        = ext (tU m c g k) (12544 * t.val + r.val) := fun r hr => by
    rw [b_eq m c t b hb r hr, pay1_eq m c t x W1 b1 W2 b2 hx hW1 hb1 hW2 hb2 r hr, x_at (V1 m) c t x hx r k hr, V1_arg0]
    unfold ext tU; rw [dif_pos hr]; rfl
  unfold stepU
  by_cases h3 : t = t0_3
  · rw [if_pos ((cond3_iff t).2 h3), pay10_at x W1 b1 W2 b2 b _ (by rw [coords_val, h3]; rfl), if_neg (by rw [h3]; decide)]
    refine congrArg _ (Finset.sum_congr rfl fun r _ => ?_)
    have ht : t.val = 3 := by rw [h3]; rfl
    by_cases hr : 12544 * t.val + r.val < 50000
    · rw [if_pos (by omega)]; exact key r hr
    · rw [if_neg (by omega)]; unfold ext; rw [dif_neg hr]
  · rw [if_neg (mt (cond3_iff t).1 h3), pay6_at]
    refine congrArg₂ (· + ·) ?_ ?_
    · by_cases h0 : t = t0_0
      · rw [if_pos ((cond1_iff t).2 h0), if_pos h0]; exact pay3_at _
      · rw [if_neg (mt (cond1_iff t).1 h0), if_neg h0]
    · exact Finset.sum_congr rfl fun r _ => key r (rows_lt t h3 r)

/-- One point's step of the denominators. -/
theorem RD_at (t : Fin cfg0.N) (Y X : Vec Ideal S64x128 .f32) (h : RD (V1 m) c t Y X) (g : Fin 64) (k : Fin 128) :
    X (ix2 g k) = (if t = t0_0 then 0 else Y (ix2 g k)) + ∑ r : Fin 12544, ext (tD m c g) (12544 * t.val + r.val) := by
  obtain ⟨x, b, W1, b1, W2, b2, hx, hb, hW1, hb1, hW2, hb2, rfl⟩ := h
  have key : ∀ (r : Fin 12544) (hr : 12544 * t.val + r.val < 50000),
      (if b (ix3 0 0 r) = BitVec.ofNat 32 g.val then k0_pay1 (F := Ideal) x W1 b1 W2 b2 (ix1 r) else 0)
        = ext (tD m c g) (12544 * t.val + r.val) := fun r hr => by
    rw [b_eq m c t b hb r hr, pay1_eq m c t x W1 b1 W2 b2 hx hW1 hb1 hW2 hb2 r hr]
    unfold ext tD; rw [dif_pos hr]
  unfold stepD
  by_cases h3 : t = t0_3
  · rw [if_pos ((cond3_iff t).2 h3), pay11_at x W1 b1 W2 b2 b _ (by rw [coords_val, h3]; rfl), if_neg (by rw [h3]; decide)]
    refine congrArg _ (Finset.sum_congr rfl fun r _ => ?_)
    have ht : t.val = 3 := by rw [h3]; rfl
    by_cases hr : 12544 * t.val + r.val < 50000
    · rw [if_pos (by omega)]; exact key r hr
    · rw [if_neg (by omega)]; unfold ext; rw [dif_neg hr]
  · rw [if_neg (mt (cond3_iff t).1 h3), pay7_at]
    refine congrArg₂ (· + ·) ?_ ?_
    · by_cases h0 : t = t0_0
      · rw [if_pos ((cond1_iff t).2 h0), if_pos h0]; exact pay4_at _
      · rw [if_neg (mt (cond1_iff t).1 h0), if_neg h0]
    · exact Finset.sum_congr rfl fun r _ => key r (rows_lt t h3 r)

/-- The sums after the four points. -/
theorem goodU_at (up : Vec Ideal S64x256 .f32) (h : GoodU (V1 m) c up) (g : Fin 64) (k : Fin 256) :
    up (ix2 g k) = segSum (bs m c) (fun i => es m c i * xs m c i k) g := by
  obtain ⟨u, u0, u1, u2, h0, h1, h2, h3⟩ := h
  rw [RU_at m c _ _ _ h3, if_neg (by decide), RU_at m c _ _ _ h2, if_neg (by decide), RU_at m c _ _ _ h1, if_neg (by decide),
    RU_at m c _ _ _ h0, if_pos rfl]
  exact sum_blocks (tU m c g k)

/-- The denominators after the four points. -/
theorem goodD_at (den : Vec Ideal S64x128 .f32) (h : GoodD (V1 m) c den) (g : Fin 64) (k : Fin 128) :
    den (ix2 g k) = segSum (bs m c) (es m c) g := by
  obtain ⟨u, u0, u1, u2, h0, h1, h2, h3⟩ := h
  rw [RD_at m c _ _ _ h3, if_neg (by decide), RD_at m c _ _ _ h2, if_neg (by decide), RD_at m c _ _ _ h1, if_neg (by decide),
    RD_at m c _ _ _ h0, if_pos rfl]
  exact sum_blocks (tD m c g)

/-- Column 0 of the denominators. -/
theorem den0_at (den : Vec Ideal S64x128 .f32) (g : Fin 64) : den0 den (ix1 g) = den (ix2 g 0) := by
  unfold den0; pointwise

/-- What the tiles leave is the pooled value. -/
theorem out_at (up : UpC Ideal) (d7 : DenC Ideal) (h : Good m up d7) (g : Fin 64) (k : Fin 256) :
    scOut up d7 (ix2 g k) = pooled (bs m 0) (es m 0) (xs m 0) g k := by
  obtain ⟨den, hu, hd, rfl⟩ := h
  have hr : rowIx (ix2 g k) = ix1 g := by funext a; fin_cases a; rfl
  unfold scOut
  rw [hr, den0_at, goodD_at m 0 den hd]
  show up (ix2 g k) * recip _ = _
  rw [goodU_at m 0 up hu]
  unfold pooled recip
  show _ * Ideal.div (Ideal.ofBits .f32 0x3F800000#32) (_ + eps) = _
  rw [Ideal.ofBits_one_f32]

/-- The result on device 0, as an array. -/
def outK : Buf (Elt Ideal) (oLoc c) := fun j => pooled (bs m c) (es m c) (xs m c) (j 0) (j 1)

/-- The kernel's run: the result is the pooled value, the arguments are unchanged. -/
theorem run (ρ : Dev nD → PrngReg) : θ_run defs threads ⟨m, fun _ => 0, ρ⟩ fun r =>
    (∀ c, r.2.mem (oLoc c) = outK m c) ∧ QC m r := by
  refine (θ_run defs _ _).mono (fun r h => ⟨fun c => ?_, h⟩) (run_main m ρ)
  obtain rfl : c = 0 := Subsingleton.elim _ _
  funext j
  obtain ⟨up, d7, hg, e⟩ := (h.1 0).2 j
  rw [e]
  have hj : j = ix2 (j 0) (j 1) := by funext a; fin_cases a <;> rfl
  rw [hj]
  exact out_at m up d7 hg _ _

end Cert.Proof.KValue

end
-- ==== Proof.Segments.lean ====
/-
  The host's gather and accumulating scatter along the rows, read at an index: a gathered row is the table's entry at
  the row's number, and a scattered entry is its start plus the sum of the rows whose number it has.
-/
module

public import Idealize.ShloMosaic.Lib.Pointwise
public import Idealize.ShloMosaic.PureOps.Ideal.Laws

@[expose] public section

noncomputable section

namespace Cert.Proof.Segments

open Idealize.ShloMosaic

/-- A sum over a rank-1 shape's indices is a sum over its coordinate. -/
theorem sum_one {M : Type*} [AddCommMonoid M] {n : ℕ} (f : (⟨1, ![n]⟩ : Shape).Idx → M) : ∑ j, f j = ∑ i : Fin n, f (ix1 i) :=
  Fintype.sum_equiv
    ⟨fun j => j 0, fun i => ix1 i, fun j => funext fun a => by obtain rfl : a = 0 := Subsingleton.elim _ _; rfl, fun _ => rfl⟩ _ _
    fun j => congrArg f (funext fun a => by obtain rfl : a = 0 := Subsingleton.elim _ _; rfl)

/-- The dimension numbers of a scatter of `N` scalars into a vector of `G`, one number each. -/
abbrev dims1 (G N : ℕ) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

/-- The dimension numbers of a scatter of `N` rows of `C` into a matrix of `G` such rows, one number each. -/
abbrev dims2 (G N C : ℕ) (wf : ScatterDims.WF ⟨2, ![G, C]⟩ ⟨2, ![N, 1]⟩ ⟨2, ![N, C]⟩ [1] [0] [0] 1) :
    ScatterDims ⟨2, ![G, C]⟩ ⟨2, ![N, 1]⟩ ⟨2, ![N, C]⟩ where
  updateWindowDims := [1]
  insertedWindowDims := [0]
  scatterDimsToOperandDims := [0]
  indexVectorDim := 1
  wf := wf

/-- A row's scalar lands at `g` exactly when its number is `g`. -/
theorem lands1 {G N : ℕ} (wf) (idx : IVec ⟨2, ![N, 1]⟩ 32) (i : Fin N) (g : Fin G) :
    (dims1 G N wf).resultIdx? (ix1 i) idx = some (ix1 g) ↔ (idx (ix2 i 0)).toInt = (g.val : Int) := by
  have hw : (dims1 G N wf).window (ix1 i) 0 = 0 := by
    unfold ScatterDims.window
    rw [dif_neg (by simp [ScatterDims.sKept, Shape.kept])]
  have hs : (dims1 G N wf).start (ix1 i) idx 0 = (idx (ix2 i 0)).toInt := by
    unfold ScatterDims.start
    rw [dif_pos (show (0 : Fin 1) ∈ (dims1 G N wf).scatterDimsToOperandDims from List.mem_singleton.mpr rfl)]
    congr 2
    funext b; apply Fin.ext
    match b with
    | ⟨0, _⟩ => rfl
    | ⟨1, _⟩ => rfl
  have hg := g.isLt
  unfold ScatterDims.resultIdx?
  split
  · next h =>
    have h0 := h 0
    change 0 ≤ (dims1 G N wf).start (ix1 i) idx 0 + ((dims1 G N wf).window (ix1 i) 0 : Int) ∧ _ < (G : Int) at h0
    rw [hs, hw] at h0
    constructor
    · intro e
      have e0 := congrArg Fin.val (congrFun (Option.some.inj e) 0)
      change ((dims1 G N wf).start (ix1 i) idx 0 + ((dims1 G N wf).window (ix1 i) 0 : Int)).toNat = g.val at e0
      rw [hs, hw] at e0; omega
    · intro e
      refine congrArg some (funext fun a => Fin.ext ?_)
      obtain rfl : a = 0 := Subsingleton.elim _ _
      show ((dims1 G N wf).start (ix1 i) idx 0 + ((dims1 G N wf).window (ix1 i) 0 : Int)).toNat = g.val
      rw [hs, hw]; omega
  · next h =>
    refine ⟨fun e => (by cases e), fun e => (h fun a => ?_).elim⟩
    obtain rfl : a = 0 := Subsingleton.elim _ _
    show 0 ≤ (dims1 G N wf).start (ix1 i) idx 0 + ((dims1 G N wf).window (ix1 i) 0 : Int)
      ∧ (dims1 G N wf).start (ix1 i) idx 0 + ((dims1 G N wf).window (ix1 i) 0 : Int) < (G : Int)
    rw [hs, hw]; omega

/-- An entry of a row lands at `(g, k)` exactly when the row's number is `g` and the entry's column `k`. -/
theorem lands2 {G N C : ℕ} (wf) (idx : IVec ⟨2, ![N, 1]⟩ 32) (i : Fin N) (l : Fin C) (g : Fin G) (k : Fin C) :
    (dims2 G N C wf).resultIdx? (ix2 i l) idx = some (ix2 g k) ↔ (idx (ix2 i 0)).toInt = (g.val : Int) ∧ l = k := by
  have hk : (dims2 G N C wf).sKept = [1] := rfl
  have hw0 : (dims2 G N C wf).window (ix2 i l) 0 = 0 := by
    unfold ScatterDims.window
    rw [dif_neg (by rw [hk]; exact (show ¬ (0 : Fin 2) ∈ [(1 : Fin 2)] by decide))]
  have hw1 : (dims2 G N C wf).window (ix2 i l) 1 = l.val := by
    unfold ScatterDims.window
    rw [dif_pos (by rw [hk]; exact (show (1 : Fin 2) ∈ [(1 : Fin 2)] by decide))]
    rfl
  have hs0 : (dims2 G N C wf).start (ix2 i l) idx 0 = (idx (ix2 i 0)).toInt := by
    unfold ScatterDims.start
    rw [dif_pos (show (0 : Fin 2) ∈ (dims2 G N C wf).scatterDimsToOperandDims from List.mem_singleton.mpr rfl)]
    congr 2
    funext b; apply Fin.ext
    match b with
    | ⟨0, _⟩ => rfl
    | ⟨1, _⟩ => rfl
  have hs1 : (dims2 G N C wf).start (ix2 i l) idx 1 = 0 := by
    unfold ScatterDims.start
    rw [dif_neg (show ¬ (1 : Fin 2) ∈ (dims2 G N C wf).scatterDimsToOperandDims from (show ¬ (1 : Fin 2) ∈ [(0 : Fin 2)] by decide))]
  have hg := g.isLt
  have hl := l.isLt
  unfold ScatterDims.resultIdx?
  split
  · next h =>
    have h0 := h 0
    change 0 ≤ (dims2 G N C wf).start (ix2 i l) idx 0 + ((dims2 G N C wf).window (ix2 i l) 0 : Int) ∧ _ < (G : Int) at h0
    rw [hs0, hw0] at h0
    constructor
    · intro e
      have e0 := congrArg Fin.val (congrFun (Option.some.inj e) 0)
      have e1 := congrArg Fin.val (congrFun (Option.some.inj e) 1)
      change ((dims2 G N C wf).start (ix2 i l) idx 0 + ((dims2 G N C wf).window (ix2 i l) 0 : Int)).toNat = g.val at e0
      change ((dims2 G N C wf).start (ix2 i l) idx 1 + ((dims2 G N C wf).window (ix2 i l) 1 : Int)).toNat = k.val at e1
      rw [hs0, hw0] at e0
      rw [hs1, hw1] at e1
      exact ⟨by omega, Fin.ext (by omega)⟩
    · rintro ⟨e, rfl⟩
      refine congrArg some (funext fun a => Fin.ext ?_)
      match a with
      | ⟨0, _⟩ =>
        show ((dims2 G N C wf).start (ix2 i l) idx 0 + ((dims2 G N C wf).window (ix2 i l) 0 : Int)).toNat = g.val
        rw [hs0, hw0]; omega
      | ⟨1, _⟩ =>
        show ((dims2 G N C wf).start (ix2 i l) idx 1 + ((dims2 G N C wf).window (ix2 i l) 1 : Int)).toNat = l.val
        rw [hs1, hw1]; omega
  · next h =>
    refine ⟨fun e => (by cases e), fun e => (h fun a => ?_).elim⟩
    match a with
    | ⟨0, _⟩ =>
      show 0 ≤ (dims2 G N C wf).start (ix2 i l) idx 0 + ((dims2 G N C wf).window (ix2 i l) 0 : Int)
        ∧ (dims2 G N C wf).start (ix2 i l) idx 0 + ((dims2 G N C wf).window (ix2 i l) 0 : Int) < (G : Int)
      rw [hs0, hw0]; omega
    | ⟨1, _⟩ =>
      show 0 ≤ (dims2 G N C wf).start (ix2 i l) idx 1 + ((dims2 G N C wf).window (ix2 i l) 1 : Int)
        ∧ (dims2 G N C wf).start (ix2 i l) idx 1 + ((dims2 G N C wf).window (ix2 i l) 1 : Int) < (C : Int)
      rw [hs1, hw1]; omega

/-- The scatter of scalars at `g`. -/
theorem scatter1_at {G N : ℕ} (wf) (z : FVec Ideal ⟨1, ![G]⟩ .f32) (idx : IVec ⟨2, ![N, 1]⟩ 32) (u : FVec Ideal ⟨1, ![N]⟩ .f32) (g : Fin G) :
    Host.scatterAdd (F := Ideal) (dims1 G N wf) z idx u (ix1 g)
      = z (ix1 g) + ∑ i : Fin N, if (idx (ix2 i 0)).toInt = (g.val : Int) then u (ix1 i) else 0 := by
  show Ideal.hostScatterAdd (dims1 G N wf) z idx u (ix1 g) = _
  unfold Ideal.hostScatterAdd
  rw [Finset.sum_filter, sum_one]
  simp only [lands1]

/-- The scatter of rows at `(g, k)`. -/
theorem scatter2_at {G N C : ℕ} (wf) (z : FVec Ideal ⟨2, ![G, C]⟩ .f32) (idx : IVec ⟨2, ![N, 1]⟩ 32) (u : FVec Ideal ⟨2, ![N, C]⟩ .f32)
    (g : Fin G) (k : Fin C) :
    Host.scatterAdd (F := Ideal) (dims2 G N C wf) z idx u (ix2 g k)
      = z (ix2 g k) + ∑ i : Fin N, if (idx (ix2 i 0)).toInt = (g.val : Int) then u (ix2 i k) else 0 := by
  show Ideal.hostScatterAdd (dims2 G N C wf) z idx u (ix2 g k) = _
  unfold Ideal.hostScatterAdd
  rw [Finset.sum_filter, sum_idx2]
  refine congrArg _ (Finset.sum_congr rfl fun i _ => ?_)
  simp only [lands2]
  by_cases h : (idx (ix2 i 0)).toInt = (g.val : Int)
  · simp [h]
  · simp [h]

/-- The dimension numbers of a gather of `N` scalars from a vector of `G`, one number each. -/
abbrev dimsG (G N : ℕ) (wf : GatherDims.WF ⟨1, ![G]⟩ ⟨2, ![N, 1]⟩ ⟨1, ![N]⟩ [] [0] [] [0] [] 1 ![1]) :
    GatherDims ⟨1, ![G]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The gather at row `i` whose number is `g`: the table's entry `g`. -/
theorem gather_at {α : Type} {G N : ℕ} (wf) (x : (⟨1, ![G]⟩ : Shape).Idx → α) (idx : IVec ⟨2, ![N, 1]⟩ 32) (i : Fin N) (g : Fin G)
    (h : (idx (ix2 i 0)).toInt = (g.val : Int)) : Host.gather (dimsG G N wf) x idx (ix1 i) = x (ix1 g) := by
  unfold Host.gather
  congr 1
  funext a
  obtain rfl : a = 0 := Subsingleton.elim _ _
  refine Fin.ext ?_
  show (dimsG G N wf).start (ix1 i) idx 0 + (dimsG G N wf).batchCoord (ix1 i) 0 + (dimsG G N wf).offCoord (ix1 i) 0 = g.val
  rw [GatherDims.batchCoord_eq_zero _ _ _ List.not_mem_nil,
    GatherDims.offCoord_eq_zero _ _ _ (fun h => ((GatherDims.mem_sKept _ _).mp h).1 (List.mem_singleton.mpr rfl))]
  have hs : (dimsG G N wf).start (ix1 i) idx 0 = min (idx (ix2 i 0)).toInt.toNat (G - 1) := by
    unfold GatherDims.start
    rw [dif_pos (show (0 : Fin 1) ∈ (dimsG G N wf).startIndexMap from List.mem_singleton.mpr rfl)]
    have hsi : (dimsG G N wf).siIdx (ix1 i) ⟨List.idxOf (0 : Fin 1) (dimsG G N wf).startIndexMap,
        List.idxOf_lt_length_iff.2 (List.mem_singleton.mpr rfl)⟩ = ix2 i 0 := by
      funext b; refine Fin.ext ?_
      match b with
      | ⟨0, _⟩ => rfl
      | ⟨1, _⟩ => rfl
    rw [hsi]; rfl
  rw [hs, h]
  have := g.isLt
  omega

/-- A word's integer is a segment's number exactly when the word is the segment's. -/
theorem toInt_eq_iff (b : BitVec 32) (g : Fin 64) : b.toInt = (g.val : Int) ↔ b = BitVec.ofNat 32 g.val := by
  have hg := g.isLt
  have e : (BitVec.ofNat 32 g.val).toInt = (g.val : Int) := by
    rw [BitVec.toInt_eq_toNat_of_lt (by rw [BitVec.toNat_ofNat]; omega), BitVec.toNat_ofNat]; omega
  rw [← e]
  exact ⟨fun h => BitVec.eq_of_toInt_eq h, fun h => by rw [h]⟩

end Cert.Proof.Segments

end
-- ==== Proof.Algebra.lean ====
/-
  The quotients of the two references and the kernel's: dividing each row's exponential by its segment's guarded
  denominator and summing is multiplying the segment's sum by one over it; and shifting the scores by a segment's
  maximum, with the guard scaled alike, changes no quotient.
-/
module

public import proofs.«01_k».proof.Proof.Spec

@[expose] public section

noncomputable section

namespace Cert.Proof.Spec

open Idealize.ShloMosaic

/-- The guard is positive. -/
theorem eps_pos : 0 < eps := by
  have h : ∃ r : ℝ, 0 < r ∧ eps = (r : EReal) := by
    refine ⟨_, ?_, by unfold eps; simp [Ideal.ofBits, Ideal.ieee, -EReal.coe_mul]; rfl⟩
    norm_num
  obtain ⟨r, hr, e⟩ := h
  rw [e]; exact_mod_cast hr

/-- An exponential is not negative. -/
theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-- An inverse is never the infinity. -/
theorem inv_ne_top (x : EReal) : x⁻¹ ≠ ⊤ := by
  induction x with
  | bot => simp
  | top => simp
  | coe r => rw [← EReal.coe_inv]; exact EReal.coe_ne_top _

/-- A finite factor that is not negative goes into a sum. -/
theorem sum_mul_of {ι : Type} (s : Finset ι) (f : ι → EReal) {r : EReal} (h0 : 0 ≤ r) (ht : r ≠ ⊤) : (∑ i ∈ s, f i) * r = ∑ i ∈ s, f i * r := by
  classical
  induction s using Finset.induction_on with
  | empty => simp
  | insert a s ha ih =>
    rw [Finset.sum_insert ha, Finset.sum_insert ha, ← ih, mul_comm, EReal.left_distrib_of_nonneg_of_ne_top h0 ht, mul_comm r, mul_comm r]

variable (b : Fin 50000 → BitVec 32) (e : Fin 50000 → EReal) (x : Fin 50000 → Fin 256 → EReal)

/-- A segment's sum of terms that are not negative is not negative. -/
theorem segSum_nonneg (he : ∀ i, 0 ≤ e i) (g : Fin 64) : 0 ≤ segSum b e g :=
  Finset.sum_nonneg fun i _ => by split <;> first | exact he i | exact le_refl _

/-- So its guarded sum is positive. -/
theorem guarded_pos (he : ∀ i, 0 ≤ e i) (g : Fin 64) : 0 < segSum b e g + eps :=
  lt_of_lt_of_le eps_pos (le_add_of_nonneg_left (segSum_nonneg b e he g))

/-- A factor that is not negative and finite goes into a segment's sum. -/
theorem segSum_mul (f : Fin 50000 → EReal) (g : Fin 64) {r : EReal} (h0 : 0 ≤ r) (ht : r ≠ ⊤) : segSum b f g * r = segSum b (fun i => f i * r) g := by
  unfold segSum
  rw [sum_mul_of _ _ h0 ht]
  exact Finset.sum_congr rfl fun i _ => by split <;> simp

/-- Segments' sums of functions that agree on the segment's rows agree. -/
theorem segSum_congr {f f' : Fin 50000 → EReal} (g : Fin 64) (h : ∀ i, b i = BitVec.ofNat 32 g.val → f i = f' i) : segSum b f g = segSum b f' g :=
  Finset.sum_congr rfl fun i _ => by
    by_cases hb : b i = BitVec.ofNat 32 g.val
    · rw [if_pos hb, if_pos hb, h i hb]
    · rw [if_neg hb, if_neg hb]

/-- Weighting each row by its quotient and summing gives the pooled value. -/
theorem pooled_eq (he : ∀ i, 0 ≤ e i) (g : Fin 64) (k : Fin 256) :
    segSum b (fun i => x i k * Ideal.div (e i) (segSum b e g + eps)) g = pooled b e x g k := by
  have hc := guarded_pos b e he g
  unfold pooled
  generalize segSum b e g + eps = c at hc
  unfold Ideal.div
  rw [if_neg hc.ne', one_mul, segSum_mul b _ g (EReal.inv_nonneg_of_nonneg hc.le) (inv_ne_top c)]
  refine segSum_congr b g fun i _ => ?_
  rw [if_neg hc.ne', ← mul_assoc, mul_comm (x i k)]

/-- The exponential of a difference of reals. -/
theorem exp_sub (s M : ℝ) : Ideal.exp ((s : EReal) - (M : EReal)) = Ideal.exp (s : EReal) * Ideal.exp (-(M : EReal)) := by
  rw [← EReal.coe_sub, ← EReal.coe_neg]
  show ((Real.exp (s - M) : ℝ) : EReal) = ((Real.exp s : ℝ) : EReal) * ((Real.exp (-M) : ℝ) : EReal)
  rw [← EReal.coe_mul, ← Real.exp_add, sub_eq_add_neg]

/-- A common positive real factor cancels in a quotient by a positive divisor. -/
theorem div_mul_mul (a c : EReal) (hc : 0 < c) (q : ℝ) (hq : 0 < q) : Ideal.div (a * (q : EReal)) (c * (q : EReal)) = Ideal.div a c := by
  have hq' : (0 : EReal) < (q : EReal) := by exact_mod_cast hq
  have h : c * (q : EReal) ≠ 0 := (EReal.mul_pos hc hq').ne'
  unfold Ideal.div
  rw [if_neg h, if_neg hc.ne', EReal.mul_inv, mul_comm c⁻¹, mul_assoc, ← mul_assoc (q : EReal), ← EReal.coe_inv, ← EReal.coe_mul,
    mul_inv_cancel₀ hq.ne', EReal.coe_one, one_mul]

/-- The segment's shift: the largest of its rows' scores, the least value where it has none. -/
def segMax (s : Fin 50000 → EReal) (g : Fin 64) : EReal :=
  Finset.univ.fold max ⊥ fun i : Fin 50000 => if b i = BitVec.ofNat 32 g.val then s i else ⊥

/-- The largest score of a segment with a row is a real when every score is. -/
theorem segMax_real (s : Fin 50000 → EReal) (hs : ∀ i, ∃ r : ℝ, s i = r) (g : Fin 64) (i : Fin 50000) (hi : b i = BitVec.ofNat 32 g.val) :
    ∃ r : ℝ, segMax b s g = r := by
  have hb : segMax b s g ≠ ⊥ := by
    intro h
    have h1 : s i ≤ segMax b s g := (Finset.le_fold_max _).2 (Or.inr ⟨i, Finset.mem_univ _, by rw [if_pos hi]⟩)
    obtain ⟨r, hr⟩ := hs i
    rw [h, hr] at h1
    exact EReal.coe_ne_bot r (le_bot_iff.1 h1)
  have ht : segMax b s g ≠ ⊤ := by
    refine ne_of_lt ((Finset.fold_max_lt _).2 ⟨bot_lt_top, fun j _ => ?_⟩)
    split
    · obtain ⟨r, hr⟩ := hs j
      rw [hr]; exact EReal.coe_lt_top r
    · exact bot_lt_top
  exact ⟨(segMax b s g).toReal, (EReal.coe_toReal ht hb).symm⟩

/-- Weighting each row by its quotient of shifted exponentials, the guard scaled by the shift's, and summing gives the
    pooled value of the exponentials. -/
theorem pooled_shifted (s : Fin 50000 → EReal) (hs : ∀ i, ∃ r : ℝ, s i = r) (g : Fin 64) (k : Fin 256) :
    segSum b (fun i => x i k * Ideal.div (Ideal.exp (s i - segMax b s g))
        (segSum b (fun j => Ideal.exp (s j - segMax b s g)) g + eps * Ideal.exp (-segMax b s g))) g
      = pooled b (fun i => Ideal.exp (s i)) x g k := by
  rw [← pooled_eq b (fun i => Ideal.exp (s i)) x (fun i => exp_nonneg _) g k]
  refine segSum_congr b g fun i hi => congrArg (x i k * ·) ?_
  obtain ⟨M, hM⟩ := segMax_real b s hs g i hi
  have hq : Ideal.exp (-(M : EReal)) = ((Real.exp (-M) : ℝ) : EReal) := by rw [← EReal.coe_neg]; rfl
  have hexp : ∀ j, Ideal.exp (s j - segMax b s g) = Ideal.exp (s j) * ((Real.exp (-M) : ℝ) : EReal) := fun j => by
    obtain ⟨r, hr⟩ := hs j
    rw [hM, hr, exp_sub, hq]
  have hq0 : (0 : EReal) ≤ ((Real.exp (-M) : ℝ) : EReal) := by exact_mod_cast (Real.exp_pos _).le
  simp only [hexp]
  rw [← segSum_mul b (fun j => Ideal.exp (s j)) g hq0 (EReal.coe_ne_top _), hM, hq,
    ← EReal.right_distrib_of_nonneg (segSum_nonneg b _ (fun _ => exp_nonneg _) g) eps_pos.le]
  exact div_mul_mul _ _ (guarded_pos b _ (fun _ => exp_nonneg _) g) _ (Real.exp_pos _)

/-- A hyperbolic tangent is a real. -/
theorem tanh_real (x : EReal) : ∃ r : ℝ, Ideal.tanh x = r := by
  induction x with
  | bot => exact ⟨-1, by show (-1 : EReal) = _; simp⟩
  | top => exact ⟨1, by show (1 : EReal) = _; simp⟩
  | coe r => exact ⟨Real.tanh r, rfl⟩

/-- A sum of reals is a real. -/
theorem sum_real {ι : Type} (t : Finset ι) (f : ι → EReal) (h : ∀ i, ∃ r : ℝ, f i = r) : ∃ r : ℝ, ∑ i ∈ t, f i = r := by
  classical
  induction t using Finset.induction_on with
  | empty => exact ⟨0, by simp⟩
  | insert a t ha ih =>
    obtain ⟨r, hr⟩ := h a
    obtain ⟨q, hq⟩ := ih
    exact ⟨r + q, by rw [Finset.sum_insert ha, hr, hq, EReal.coe_add]⟩

/-- With the second layer's weights and offset real, every score is a real. -/
theorem score_real (w1 : Fin 256 → Fin 256 → EReal) (b1 w2 : Fin 256 → EReal) (b2 : EReal) (xr : Fin 256 → EReal)
    (hw : ∀ k, ∃ r : ℝ, w2 k = r) (hb : ∃ r : ℝ, b2 = r) : ∃ r : ℝ, score w1 b1 w2 b2 xr = r := by
  unfold score
  obtain ⟨q, hq⟩ := hb
  obtain ⟨r, hr⟩ := sum_real Finset.univ (fun k => Ideal.tanh ((∑ j : Fin 256, xr j * w1 j k) + b1 k) * w2 k) fun k => by
    obtain ⟨u, hu⟩ := tanh_real ((∑ j : Fin 256, xr j * w1 j k) + b1 k)
    obtain ⟨v, hv⟩ := hw k
    exact ⟨u * v, by rw [hu, hv, EReal.coe_mul]⟩
  exact ⟨r + q, by rw [hr, hq, EReal.coe_add]⟩

end Cert.Proof.Spec

end
-- ==== Proof.RefCommon.lean ====
/-
  The operations the two references share, read at an index: the scores, the segment numbers as a column, the numbers
  the gathers take, a segment sum of scalars and one of rows.
-/
module

public import proofs.«01_k».proof.Proof.Gen.ReferenceIdeal
public import proofs.«01_k».proof.Proof.Pays
public import proofs.«01_k».proof.Proof.Segments
public import proofs.«01_k».proof.Proof.Algebra

@[expose] public section

noncomputable section

namespace Cert.Proof.RefCommon

open Idealize.ShloMosaic Cert.ReferenceIdeal Cert.ReferenceIdeal.Gen Cert.Proof.Spec Cert.Proof.Segments

variable (x : FVec Ideal S50000x256 .f32) (bt : IVec S50000 32) (W1 : FVec Ideal S256x256 .f32) (b1 : FVec Ideal S256 .f32) (W2 : FVec Ideal S256x1 .f32)
  (b2 : FVec Ideal S1 .f32)

/-- The scores, as the references compute them. -/
def sv : FVec Ideal S50000 .f32 :=
  shapeCast _ (addf (Host.dotGeneral dot_S50000x256_S256x1_S50000x1_1_0_0_1_n_n none (Host.tanh (addf (Host.dotGeneral dot_S50000x256_S256x256_S50000x256_1_0_0_1_n_n none x W1) (broadcastInDim S50000x256 ![0, 1] bcast_S1x256_S50000x256_0_1 (broadcastInDim S1x256 ![1] bcast_S256_S1x256_1 b1)))) W2) (broadcastInDim S50000x1 ![0, 1] bcast_S1x1_S50000x1_0_1 (broadcastInDim S1x1 ![1] bcast_S1_S1x1_1 b2))) shapeCasts_S50000x1_S50000

/-- A row's score. -/
def rs (i : Fin 50000) : EReal :=
  score (fun j k => W1 (ix2 j k)) (fun k => b1 (ix1 k)) (fun k => W2 (ix2 k 0)) (b2 (ix1 0)) fun j => x (ix2 i j)

/-- The scores by row. -/
theorem sv_at (i : Fin 50000) : sv x W1 b1 W2 b2 (ix1 i) = rs x W1 b1 W2 b2 i := by
  unfold rs score
  pointwise [sv]

/-- The segment numbers as a column. -/
def col : IVec S50000x1 32 := broadcastInDim S50000x1 ![0] bcast_S50000_S50000x1_0 bt
theorem col_at (i : Fin 50000) : col bt (ix2 i 0) = bt (ix1 i) := by pointwise [col]

/-- The numbers the gathers take: a negative one counts from the end. -/
def ncol : IVec S50000x1 32 :=
  broadcastInDim S50000x1 ![0] bcast_S50000_S50000x1_0 (select (cmpi .slt bt (broadcastInDim S50000 ![] bcast_S_S50000 (constantI S_ 32 0#32))) (addi bt (broadcastInDim S50000 ![] bcast_S_S50000 (constantI S_ 32 64#32))) bt)
/-- A row of segment `g` gathers at `g`. -/
theorem ncol_at (i : Fin 50000) (g : Fin 64) (h : bt (ix1 i) = BitVec.ofNat 32 g.val) : (ncol bt (ix2 i 0)).toInt = (g.val : Int) := by
  have hb := (toInt_eq_iff (bt (ix1 i)) g).2 h
  have e : ncol bt (ix2 i 0) = bt (ix1 i) := by
    have e' : ncol bt (ix2 i 0) = Scalar.select (IntOp.cmpi .slt (bt (ix1 i)) 0#32) (IntOp.addi (bt (ix1 i)) 64#32) (bt (ix1 i)) := by
      pointwise [ncol]
    rw [e', Pays.select_slt, if_neg]
    rw [hb, show (0#32 : BitVec 32).toInt = 0 from rfl]; omega
  rw [e, hb]

/-- A gather of a table of 64 at the rows' numbers. -/
def gat (t : FVec Ideal S64 .f32) : FVec Ideal S50000 .f32 := Host.gather gather_S64_S50000x1_S50000_n_0_n_n_0_1_1 t (ncol bt)
theorem gat_at (t : FVec Ideal S64 .f32) (i : Fin 50000) (g : Fin 64) (h : bt (ix1 i) = BitVec.ofNat 32 g.val) : gat bt t (ix1 i) = t (ix1 g) :=
  gather_at gather_S64_S50000x1_S50000_n_0_n_n_0_1_1_wf t (ncol bt) i g (ncol_at bt i g h)

/-- A segment sum of scalars. -/
def sum1 (u : FVec Ideal S50000 .f32) : FVec Ideal S64 .f32 :=
  Host.scatterAdd scatter_S64_S50000x1_S50000_n_0_0_1 (broadcastInDim S64 ![] bcast_S_S64 (constant S_ .f32 0x00000000#32)) (col bt) u
theorem sum1_at (u : FVec Ideal S50000 .f32) (g : Fin 64) : sum1 bt u (ix1 g) = segSum (fun i => bt (ix1 i)) (fun i => u (ix1 i)) g := by
  refine (scatter1_at scatter_S64_S50000x1_S50000_n_0_0_1_wf _ (col bt) u g).trans ?_
  have e : (broadcastInDim S64 ![] bcast_S_S64 (constant S_ .f32 0x00000000#32) : FVec Ideal S64 .f32) (ix1 g) = 0 := by pointwise
  rw [e, zero_add]
  unfold segSum
  simp only [col_at, toInt_eq_iff]

/-- A segment sum of rows. -/
def sum2 (u : FVec Ideal S50000x256 .f32) : FVec Ideal S64x256 .f32 :=
  Host.scatterAdd scatter_S64x256_S50000x1_S50000x256_1_0_0_1 (broadcastInDim S64x256 ![] bcast_S_S64x256 (constant S_ .f32 0x00000000#32)) (col bt) u
theorem sum2_at (u : FVec Ideal S50000x256 .f32) (g : Fin 64) (k : Fin 256) :
    sum2 bt u (ix2 g k) = segSum (fun i => bt (ix1 i)) (fun i => u (ix2 i k)) g := by
  refine (scatter2_at scatter_S64x256_S50000x1_S50000x256_1_0_0_1_wf _ (col bt) u g k).trans ?_
  have e : (broadcastInDim S64x256 ![] bcast_S_S64x256 (constant S_ .f32 0x00000000#32) : FVec Ideal S64x256 .f32) (ix2 g k) = 0 := by pointwise
  rw [e, zero_add]
  unfold segSum
  simp only [col_at, toInt_eq_iff]

/-- Each row of `x` times its weight. -/
def wt (a : FVec Ideal S50000 .f32) : FVec Ideal S50000x256 .f32 :=
  mulf x (broadcastInDim S50000x256 ![0, 1] bcast_S50000x1_S50000x256_0_1 (broadcastInDim S50000x1 ![0] bcast_S50000_S50000x1_0 a))
theorem wt_at (a : FVec Ideal S50000 .f32) (i : Fin 50000) (k : Fin 256) : wt x a (ix2 i k) = x (ix2 i k) * a (ix1 i) := by pointwise [wt]

/-- The guard on every row. -/
def epsv : FVec Ideal S50000 .f32 := broadcastInDim S50000 ![] bcast_S_S50000 (constant S_ .f32 0x24E69595#32)
theorem epsv_at (i : Fin 50000) : epsv (ix1 i) = eps := by unfold eps; pointwise [epsv]

/-- A row's quotient by a guarded table entry; -/
theorem quot_at (a d q : FVec Ideal S50000 .f32) (i : Fin 50000) :
    Host.divf a (addf d q) (ix1 i) = Ideal.div (a (ix1 i)) (d (ix1 i) + q (ix1 i)) := rfl
/-- the exponential of a row's difference; -/
theorem expsub_at (a d : FVec Ideal S50000 .f32) (i : Fin 50000) :
    (Host.exp (subf a d) : FVec Ideal S50000 .f32) (ix1 i) = Ideal.exp (a (ix1 i) - d (ix1 i)) := rfl
/-- the guard scaled by the exponential of a row's opposite. -/
theorem scale_at (a d : FVec Ideal S50000 .f32) (i : Fin 50000) :
    (mulf a (Host.exp (Host.negf d)) : FVec Ideal S50000 .f32) (ix1 i) = a (ix1 i) * Ideal.exp (-(d (ix1 i))) := rfl

/-- What the reference without a shift returns. -/
def unshifted : FVec Ideal S64x256 .f32 :=
  sum2 bt (wt x (Host.divf (Host.exp (sv x W1 b1 W2 b2)) (addf (gat bt (sum1 bt (Host.exp (sv x W1 b1 W2 b2)))) epsv)))

/-- It is the pooled value. -/
theorem unshifted_at (g : Fin 64) (k : Fin 256) :
    unshifted x bt W1 b1 W2 b2 (ix2 g k)
      = pooled (fun i => bt (ix1 i)) (fun i => Ideal.exp (rs x W1 b1 W2 b2 i)) (fun i k => x (ix2 i k)) g k := by
  rw [← pooled_eq _ _ _ (fun i => exp_nonneg _)]
  unfold unshifted
  rw [sum2_at]
  refine segSum_congr _ g fun i hi => ?_
  have e : ∀ i, (Host.exp (sv x W1 b1 W2 b2) : FVec Ideal S50000 .f32) (ix1 i) = Ideal.exp (rs x W1 b1 W2 b2 i) := fun i => by
    rw [← sv_at]; rfl
  rw [wt_at, quot_at, gat_at bt _ i g hi, sum1_at, epsv_at]
  simp only [e]

/-- The segments' maxima, as the reference computes them. -/
def mx : FVec Ideal S64 .f32 :=
  Host.reduce FloatOps.maximumf (select (cmpi .eq (broadcastInDim S50000x64 ![0, 1] bcast_S50000x1_S50000x64_0_1 (broadcastInDim S50000x1 ![0] bcast_S50000_S50000x1_0 bt)) (broadcastInDim S50000x64 ![0, 1] bcast_S1x64_S50000x64_0_1 (broadcastInDim S1x64 ![1] bcast_S64_S1x64_1 (iotaInDim S64 32 0)))) (broadcastInDim S50000x64 ![0, 1] bcast_S50000x1_S50000x64_0_1 (broadcastInDim S50000x1 ![0] bcast_S50000_S50000x1_0 (sv x W1 b1 W2 b2))) (broadcastInDim S50000x64 ![] bcast_S_S50000x64 (id (constant S_ .f32 0xFF800000#32)))) (constant S_ .f32 0xFF800000#32) reducesTo_S50000x64_S64_d0 h_S_

/-- The pattern of minus infinity is the least value. -/
theorem ofBits_ninf : Ideal.ofBits .f32 0xFF800000#32 = ⊥ := by simp [Ideal.ofBits, Ideal.ieee]

/-- A segment's maximum. -/
theorem mx_at (g : Fin 64) : mx x bt W1 b1 W2 b2 (ix1 g) = segMax (fun i => bt (ix1 i)) (rs x W1 b1 W2 b2) g := by
  unfold segMax
  have e : ∀ i, sv x W1 b1 W2 b2 (ix1 i) = rs x W1 b1 W2 b2 i := sv_at x W1 b1 W2 b2
  generalize hs : sv x W1 b1 W2 b2 = s at e
  unfold mx
  rw [hs]
  pointwise
  have ec : ∀ j, (id (constant S_ .f32 0xFF800000#32) : FVec Ideal S_ .f32) j = ⊥ := fun _ => ofBits_ninf
  simp only [Pays.select_eq, ofBits_ninf, e, ec]

/-- What the shifted reference returns. -/
def shifted : FVec Ideal S64x256 .f32 :=
  sum2 bt (wt x (Host.divf (Host.exp (subf (sv x W1 b1 W2 b2) (gat bt (mx x bt W1 b1 W2 b2))))
    (addf (gat bt (sum1 bt (Host.exp (subf (sv x W1 b1 W2 b2) (gat bt (mx x bt W1 b1 W2 b2))))))
      (mulf epsv (Host.exp (Host.negf (gat bt (mx x bt W1 b1 W2 b2))))))))

/-- Where every score is a real, it is the pooled value too. -/
theorem shifted_at (hs : ∀ i, ∃ r : ℝ, rs x W1 b1 W2 b2 i = r) (g : Fin 64) (k : Fin 256) :
    shifted x bt W1 b1 W2 b2 (ix2 g k)
      = pooled (fun i => bt (ix1 i)) (fun i => Ideal.exp (rs x W1 b1 W2 b2 i)) (fun i k => x (ix2 i k)) g k := by
  rw [← pooled_shifted _ _ _ hs]
  unfold shifted
  rw [sum2_at]
  refine segSum_congr _ g fun i hi => ?_
  have e : ∀ i, bt (ix1 i) = BitVec.ofNat 32 g.val →
      (Host.exp (subf (sv x W1 b1 W2 b2) (gat bt (mx x bt W1 b1 W2 b2))) : FVec Ideal S50000 .f32) (ix1 i)
        = Ideal.exp (rs x W1 b1 W2 b2 i - segMax (fun i => bt (ix1 i)) (rs x W1 b1 W2 b2) g) := fun i hi => by
    rw [expsub_at, sv_at, gat_at bt _ i g hi, mx_at]
  rw [wt_at, quot_at, scale_at, e i hi, gat_at bt _ i g hi, gat_at bt _ i g hi, sum1_at, epsv_at, mx_at, segSum_congr _ g e]

end Cert.Proof.RefCommon

end
-- ==== Proof.Value.lean ====
/-
  The value claims: the kernel's result is the unshifted reference's on every input, and the shifted reference's where
  the second layer's weights and offset are finite.
-/
module

public import proofs.«01_k».proof.Defs
public import proofs.«01_k».proof.Proof.Gen.Pre_finite_scores
public import proofs.«01_k».proof.Proof.Gen.ReferenceIdeal.Run
public import proofs.«01_k».proof.Proof.Gen.UnshiftedIdeal.Run
public import proofs.«01_k».proof.Proof.KValue
public import proofs.«01_k».proof.Proof.RefCommon
public import Idealize.ShloMosaic.Lib.ReduceAll

@[expose] public section

noncomputable section

namespace Cert.Proof.Value

open Idealize.ShloMosaic Idealize.SL.Sem Cert.Proof.Spec Cert.Proof.RefCommon

/-! ## The precondition makes every score a real -/

/-- A value whose magnitude is below the infinity is a real. -/
theorem real_of_abs (a : EReal) (h : FloatOps.cmpf (F := Ideal) (φ := .f32) .olt (FloatOps.hostAbsf (F := Ideal) (φ := .f32) a) (Ideal.ofBits .f32 0x7F800000#32) = 1#1) :
    ∃ r : ℝ, a = r := by
  have ht : Ideal.ofBits .f32 0x7F800000#32 = ⊤ := by simp [Ideal.ofBits, Ideal.ieee]
  rw [ht] at h
  change Ideal.cmp .olt (max a (-a)) ⊤ = 1#1 at h
  induction a with
  | bot => exact absurd h (by simp [Ideal.cmp])
  | top => exact absurd h (by simp [Ideal.cmp])
  | coe r => exact ⟨r, rfl⟩

variable (m : (ℓ : Loc Cert.KernelIdeal.nD Cert.KernelIdeal.τ Cert.KernelIdeal.sig) → Buf (Elt Ideal) ℓ) (c : Dev Cert.KernelIdeal.nD)

/-- Under the precondition every row's score is a real. -/
theorem scores_real (h : Cert.Pre_KernelIdeal_finite_scores m) (xr : Fin 256 → EReal) : ∃ r : ℝ, KValue.sc m c xr = r := by
  have h' := congrFun (h c) ix0
  obtain ⟨h1, h2⟩ := IntOp.andi_eq_one.1 h'
  refine score_real _ _ _ _ _ (fun k => ?_) ?_
  · exact real_of_abs _ (Host.reduce_andi_all _ _ _ _ _ h1 (ix2 k 0))
  · exact real_of_abs _ (Host.reduce_andi_all _ _ _ _ _ h2 (ix1 0))

/-! ## The references' results -/

/-- The shifted reference's composed term is the shifted sum of its arguments. -/
theorem ref_eq (m' : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v56 m' c
      = shifted (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5)) := by
  unfold Cert.ReferenceIdeal.Value.res_main_v56
  rfl

/-- A row's score in the references is its score in the kernel. -/
theorem rs_eq (i : Fin 50000) :
    rs (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) i
      = KValue.sc m c (KValue.xs m c i) := rfl

/-- The unshifted reference of the kernel's arguments is the kernel's result. -/
theorem unshifted_outK :
    unshifted (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = KValue.outK m c := by
  funext j
  have hj : j = ix2 (j 0) (j 1) := by funext a; fin_cases a <;> rfl
  rw [hj]
  exact unshifted_at _ _ _ _ _ _ (j 0) (j 1)

/-- Under the precondition the shifted reference of the kernel's arguments is the kernel's result. -/
theorem shifted_outK (h : Cert.Pre_KernelIdeal_finite_scores m) :
    shifted (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = KValue.outK m c := by
  funext j
  have hj : j = ix2 (j 0) (j 1) := by funext a; fin_cases a <;> rfl
  rw [hj]
  exact shifted_at _ _ _ _ _ _ (fun i => scores_real m c h _) (j 0) (j 1)

/-! ## The claims -/

/-- The kernel's result is the shifted reference's, where the second layer's weights and offset are finite. -/
theorem alg_shifted : Cert.algebraic_KernelIdeal_ReferenceIdeal_pre_finite_scores := by
  intro m g m' g' hp ha
  refine ⟨KValue.outK m, (θ_run _ _ _).mono (fun r h c => ⟨h.1 c, (h.2.1 c).1⟩) (KValue.run m g),
    (θ_run _ _ _).mono (fun r h c => ⟨(h c).1.trans ?_, (h c).2⟩) (Cert.ReferenceIdeal.Value.run (F := Ideal) m' g')⟩
  obtain ⟨h0, h1, h2, h3, h4, h5⟩ := ha c
  rw [ref_eq, h0, h1, h2, h3, h4, h5]
  exact shifted_outK m c hp

/-- The kernel's result is the unshifted reference's, on every input. -/
theorem alg_unshifted : Cert.algebraic_KernelIdeal_UnshiftedIdeal := by
  intro m g m' g' _ ha
  refine ⟨KValue.outK m, (θ_run _ _ _).mono (fun r h c => ⟨h.1 c, (h.2.1 c).1⟩) (KValue.run m g),
    (θ_run _ _ _).mono (fun r h c => ⟨(h c).1.trans ?_, (h c).2⟩) (Cert.UnshiftedIdeal.Value.run (F := Ideal) m' g')⟩
  obtain ⟨h0, h1, h2, h3, h4, h5⟩ := ha c
  rw [h0, h1, h2, h3, h4, h5]
  exact unshifted_outK m c

end Cert.Proof.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.UnshiftedIdeal
public import proofs.«01_k».proof.Proof.Gen.ReferenceIdeal.Run
public import proofs.«01_k».proof.Proof.Gen.UnshiftedIdeal.Run
public import proofs.«01_k».proof.Proof.Run
public import proofs.«01_k».proof.Proof.RunI
public import proofs.«01_k».proof.Proof.Value
public import proofs.«01_k».proof.Proof.Gen.Pre_finite_scores
public import Idealize.ShloMosaic.Adequacy
public import Idealize.ShloMosaic.Init

@[expose] public section

noncomputable section

namespace Cert.Proof

open Idealize.ShloMosaic Idealize.SL.Sem Cert.Kernel

/-- The reference terminates, leaves its arguments unchanged and every counter at zero: it declares no semaphore. -/
theorem frame_r : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The unshifted reference terminates, leaves its arguments unchanged and every counter at zero. -/
theorem frame_u : Cert.quiescent_UnshiftedIdeal := fun m ρ _ =>
  (θ_run Cert.UnshiftedIdeal.defs _ _).mono (fun r h => ⟨fun c => (h c).2, sem_eq_zero_of_no_sems (by decide) r.2⟩)
    (Cert.UnshiftedIdeal.Value.run (F := Ideal) m ρ)

/-- Every claim of the certificate, with the programs' stated facts. -/
theorem claim : Cert.Claim := ⟨Cert.Kernel.Gen.facts, Cert.KernelIdeal.Gen.facts, Cert.ReferenceIdeal.Gen.facts, Cert.UnshiftedIdeal.Gen.facts,
  Cert.Pre_finite_scores.Gen.facts,
  K.frame, KI.frame, (fun m ρ _ => KI.frame m ρ trivial), frame_r, (fun m ρ _ => frame_r m ρ trivial), frame_u, trivial,
  Value.alg_shifted, Value.alg_unshifted⟩

end Cert.Proof

end
